-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_distinct [hPre_targets_distinct : Cert.Pre_targets_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_targets_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_distinct [hPre_targets_distinct : Cert.Pre_targets_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_targets_distinct [hKernelIdeal : Cert.KernelIdeal.Facts] [hPre_targets_distinct : Cert.Pre_targets_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_targets_distinct [hReferenceIdeal : Cert.ReferenceIdeal.Facts] [hPre_targets_distinct : Cert.Pre_targets_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_targets_distinct [hKernelIdeal : Cert.KernelIdeal.Facts] [hReferenceIdeal : Cert.ReferenceIdeal.Facts] [hPre_targets_distinct : Cert.Pre_targets_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_targets_distinct : Cert.Pre_targets_distinct.Facts),
    quiescent_Kernel (hKernel := hKernel)
    ∧ quiescent_KernelIdeal (hKernelIdeal := hKernelIdeal)
    ∧ quiescent_KernelIdeal_pre_targets_distinct (hKernelIdeal := hKernelIdeal) (hPre_targets_distinct := hPre_targets_distinct)
    ∧ quiescent_ReferenceIdeal (hReferenceIdeal := hReferenceIdeal)
    ∧ quiescent_ReferenceIdeal_pre_targets_distinct (hReferenceIdeal := hReferenceIdeal) (hPre_targets_distinct := hPre_targets_distinct)
    ∧ preserves_Kernel_KernelIdeal
    ∧ algebraic_KernelIdeal_ReferenceIdeal_pre_targets_distinct (hKernelIdeal := hKernelIdeal) (hReferenceIdeal := hReferenceIdeal) (hPre_targets_distinct := hPre_targets_distinct)
-- ==== Pre_targets_distinct.lean ====
abbrev S4096x1024 : Shape := ⟨2, ![4096, 1024]⟩
abbrev S4096x1023 : Shape := ⟨2, ![4096, 1023]⟩
abbrev S_ : Shape := ⟨0, ![]⟩

class Facts : Prop where
  slices_S4096x1024_S4096x1023_0_1 : S4096x1024.Slices ![0, 1] S4096x1023
  slices_S4096x1024_S4096x1023_0_0 : S4096x1024.Slices ![0, 0] S4096x1023
  bcast_S_S4096x1023 : S_.BroadcastsInDim S4096x1023 (![] : Fin 0 → Fin S4096x1023.rank)

variable [Facts]

variable {F : FTy → Type} [FloatOps F]
def comparator_f32_d1 : F .f32 → F .f32 → BitVec 1 :=
  fun l r =>
    let cst_0 := FloatOps.ofBits .f32 0x00000000#32
    let v8 := FloatOps.cmpf .oeq l cst_0
    let cst_1 := FloatOps.ofBits .f32 0x00000000#32
    let v9 := Scalar.select v8 cst_1 l
    let v10 := FloatOps.cmpf .une l l
    let cst_2 := FloatOps.ofBits .f32 0x7FC00000#32
    let v11 := Scalar.select v10 cst_2 v9
    let cst_3 := FloatOps.ofBits .f32 0x00000000#32
    let v12 := FloatOps.cmpf .oeq r cst_3
    let cst_4 := FloatOps.ofBits .f32 0x00000000#32
    let v13 := Scalar.select v12 cst_4 r
    let v14 := FloatOps.cmpf .une r r
    let cst_5 := FloatOps.ofBits .f32 0x7FC00000#32
    let v15 := Scalar.select v14 cst_5 v13
    let v16 := FloatOps.cmpfTotal .lt v11 v15
    v16

def fn {F : FTy → Type} [FloatOps F] (main_arg0 : FVec F S4096x1024 .f32) (main_arg1 : FVec F S4096x1024 .f32) : IVec S4096x1023 1 :=
  let main_v0 : FVec F S4096x1024 .f32 := (fun x => Host.sort S4096x1024 1 comparator_f32_d1 x) main_arg1
  let main_v1 : FVec F S4096x1023 .f32 := (extractStridedSlice S4096x1023 ![0, 1] · slices_S4096x1024_S4096x1023_0_1) main_v0
  let main_v2 : FVec F S4096x1023 .f32 := (extractStridedSlice S4096x1023 ![0, 0] · slices_S4096x1024_S4096x1023_0_0) main_v0
  let main_v3 : IVec S4096x1023 1 := cmpf .ogt main_v1 main_v2
  let main_v4 : FVec F S4096x1023 .f32 := (extractStridedSlice S4096x1023 ![0, 1] · slices_S4096x1024_S4096x1023_0_1) main_v0
  let main_cst : FVec F S_ .f32 := constant S_ .f32 0xBF800000#32
  let main_v5 : FVec F S4096x1023 .f32 := broadcastInDim S4096x1023 ![] bcast_S_S4096x1023 main_cst
  let main_v6 : IVec S4096x1023 1 := cmpf .oeq main_v4 main_v5
  let main_v7 : IVec S4096x1023 1 := ori main_v3 main_v6
  main_v7
-- ==== Kernel.lean ====
abbrev S4096x1024 : Shape := ⟨2, ![4096, 1024]⟩
abbrev S1024x4096 : Shape := ⟨2, ![1024, 4096]⟩
abbrev S1x4096 : Shape := ⟨2, ![1, 4096]⟩
abbrev S1024x128 : Shape := ⟨2, ![1024, 128]⟩
abbrev S1x128 : Shape := ⟨2, ![1, 128]⟩
abbrev S8x128 : Shape := ⟨2, ![8, 128]⟩
abbrev S1024x1 : Shape := ⟨2, ![1024, 1]⟩
abbrev S1023x128 : Shape := ⟨2, ![1023, 128]⟩
abbrev S1022x128 : Shape := ⟨2, ![1022, 128]⟩
abbrev S2x128 : Shape := ⟨2, ![2, 128]⟩
abbrev S1020x128 : Shape := ⟨2, ![1020, 128]⟩
abbrev S4x128 : Shape := ⟨2, ![4, 128]⟩
abbrev S1016x128 : Shape := ⟨2, ![1016, 128]⟩
abbrev S1008x128 : Shape := ⟨2, ![1008, 128]⟩
abbrev S16x128 : Shape := ⟨2, ![16, 128]⟩
abbrev S992x128 : Shape := ⟨2, ![992, 128]⟩
abbrev S32x128 : Shape := ⟨2, ![32, 128]⟩
abbrev S960x128 : Shape := ⟨2, ![960, 128]⟩
abbrev S64x128 : Shape := ⟨2, ![64, 128]⟩
abbrev S896x128 : Shape := ⟨2, ![896, 128]⟩
abbrev S128x128 : Shape := ⟨2, ![128, 128]⟩
abbrev S768x128 : Shape := ⟨2, ![768, 128]⟩
abbrev S256x128 : Shape := ⟨2, ![256, 128]⟩
abbrev S512x128 : Shape := ⟨2, ![512, 128]⟩
abbrev S128 : Shape := ⟨1, ![128]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S1024x4096, .f32⟩
  | .hbm, ⟨4, _⟩ => ⟨S1x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1x128, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x1024 : Shape := ⟨2, ![4096, 1024]⟩
abbrev S1024 : Shape := ⟨1, ![1024]⟩
abbrev S_ : Shape := ⟨0, ![]⟩
abbrev S1024x1 : Shape := ⟨2, ![1024, 1]⟩
abbrev S4096 : Shape := ⟨1, ![4096]⟩
abbrev S4096x1 : Shape := ⟨2, ![4096, 1]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S4096x1024, .f32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S1024x1, .i32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .i1⟩
  | .hbm, ⟨28, _⟩ => ⟨S_, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call2_call0_cst : Ref sig .tc := ⟨.hbm, 39, rfl⟩
abbrev main_call2_call0_v0 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_call4_v0 : Ref sig .tc := ⟨.hbm, 49, rfl⟩
abbrev main_call4_v1 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_cst_11 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Proof.Block.lean ====
/-
  The block function of the kernel, written once in the network's own terms: a compare-exchange stage at distance `2 ^ s`
  of the level that sorts runs of `2 ^ (l + 1)`, the 55 stages in their order, and the loss of the sorted columns. The
  generated file names every intermediate value of the unrolled body; `out_eq` says that what the body stores is
  `blockLoss` of the two blocks it loads.
-/
module

public import proofs.«01_k».proof.Proof.Gen.KernelIdeal.Frame
public import Idealize.ShloMosaic.Lib.Pipeline.ValueKit

@[expose] public section

set_option maxRecDepth 65536

noncomputable section

namespace Cert.KernelIdeal.Block

open Idealize.ShloMosaic Idealize.SL.Sem
open Cert.KernelIdeal Cert.KernelIdeal.Gen

variable {F : FTy → Type} [FloatOps F]

/-- A slab of `n` rows of 128 lanes. -/
abbrev Rows (n : Nat) : Shape := ⟨2, ![n, 128]⟩

/-- `k` rows from row `o` on are rows of the block. -/
theorem rows_slices (o k : Nat) (h : o + k ≤ 1024) : S1024x128.Slices ![o, 0] (Rows k) :=
  ⟨rfl, fun a => by fin_cases a <;> simp <;> omega⟩

/-- Two slabs with 1024 rows between them stack to a block. -/
theorem rows_concatenates (a b : Nat) (h : a + b = 1024) : Shape.Concatenates [Rows a, Rows b] S1024x128 0 := by
  refine ⟨Nat.le_refl 2, ?_, by simpa using h⟩
  intro s hs
  simp only [List.mem_cons, List.mem_nil_iff, or_false] at hs
  rcases hs with rfl | rfl <;> exact ⟨rfl, fun b hb => by fin_cases b <;> first | rfl | exact absurd rfl hb⟩

/-- A distance `2 ^ s` of the network is less than the number of rows. -/
theorem pow_lt (s : Fin 10) : 2 ^ s.val < 1024 := by
  have : 2 ^ s.val < 2 ^ 10 := Nat.pow_lt_pow_right (by decide) s.isLt
  omega

theorem slice_from (s : Fin 10) : S1024x128.Slices ![2 ^ s.val, 0] (Rows (1024 - 2 ^ s.val)) :=
  rows_slices _ _ (by have := pow_lt s; omega)
theorem slice_first (s : Fin 10) : S1024x128.Slices ![0, 0] (Rows (2 ^ s.val)) :=
  rows_slices _ _ (by have := pow_lt s; omega)
theorem slice_last (s : Fin 10) : S1024x128.Slices ![1024 - 2 ^ s.val, 0] (Rows (2 ^ s.val)) :=
  rows_slices _ _ (by have := pow_lt s; omega)
theorem slice_init (s : Fin 10) : S1024x128.Slices ![0, 0] (Rows (1024 - 2 ^ s.val)) :=
  rows_slices _ _ ((Nat.zero_add _).trans_le (Nat.sub_le _ _))
theorem concat_from_first (s : Fin 10) :
    Shape.Concatenates [Rows (1024 - 2 ^ s.val), Rows (2 ^ s.val)] S1024x128 0 :=
  rows_concatenates _ _ (by have := pow_lt s; omega)
theorem concat_last_init (s : Fin 10) :
    Shape.Concatenates [Rows (2 ^ s.val), Rows (1024 - 2 ^ s.val)] S1024x128 0 :=
  rows_concatenates _ _ (by have := pow_lt s; omega)

/-- Row `i` of the result is row `i + 2 ^ s` of `x`, around the end. -/
def rotUp (s : Fin 10) (x : FVec F S1024x128 .f32) : FVec F S1024x128 .f32 :=
  concatenate S1024x128 0
    [⟨Rows (1024 - 2 ^ s.val), extractStridedSlice (Rows (1024 - 2 ^ s.val)) ![2 ^ s.val, 0] x
        (slice_from s)⟩,
      ⟨Rows (2 ^ s.val), extractStridedSlice (Rows (2 ^ s.val)) ![0, 0] x (slice_first s)⟩]
    (concat_from_first s)

/-- Row `i` of the result is row `i - 2 ^ s` of `x`, around the end. -/
def rotDown (s : Fin 10) (x : FVec F S1024x128 .f32) : FVec F S1024x128 .f32 :=
  concatenate S1024x128 0
    [⟨Rows (2 ^ s.val), extractStridedSlice (Rows (2 ^ s.val)) ![1024 - 2 ^ s.val, 0] x
        (slice_last s)⟩,
      ⟨Rows (1024 - 2 ^ s.val), extractStridedSlice (Rows (1024 - 2 ^ s.val)) ![0, 0] x
        (slice_init s)⟩]
    (concat_last_init s)

/-- The row numbers. -/
def rowNo : IVec S1024x128 32 := iota .tc S1024x128 32 [0] iota_S1024x128_d0_w32

/-- Whether bit `b` of the row number is clear. -/
def bitClear (b : Nat) : IVec S1024x128 1 :=
  cmpi .eq (andi rowNo (broadcast S1024x128 (BitVec.ofNat 32 (2 ^ b)))) (broadcast S1024x128 0#32)

/-- The partner's element at distance `2 ^ s`. -/
def partnerRow (s : Fin 10) (x : FVec F S1024x128 .f32) : FVec F S1024x128 .f32 :=
  select (bitClear s.val) (rotUp s x) (rotDown s x)

/-- Whether a row takes the greater of the two keys. -/
def takeMax (l s : Fin 10) : IVec S1024x128 1 :=
  xori (xori (bitClear s.val) (bitClear (l.val + 1))) (constantI S1024x128 1 1#1)

/-- Whether a row takes its partner's entry. -/
def took (l s : Fin 10) (key : FVec F S1024x128 .f32) : IVec S1024x128 1 :=
  ori (andi (takeMax l s) (cmpf .ogt (partnerRow s key) key))
    (andi (xori (takeMax l s) (constantI S1024x128 1 1#1)) (cmpf .olt (partnerRow s key) key))

/-- One stage, on a vector `x` that rides with the keys. -/
def stageOn (l s : Fin 10) (key x : FVec F S1024x128 .f32) : FVec F S1024x128 .f32 :=
  select (took l s key) (partnerRow s x) x

/-- One stage on the keys and the values. -/
def stageStep (kv : FVec F S1024x128 .f32 × FVec F S1024x128 .f32) (c : Fin 10 × Fin 10) :
    FVec F S1024x128 .f32 × FVec F S1024x128 .f32 :=
  ⟨stageOn c.1 c.2 kv.1 kv.1, stageOn c.1 c.2 kv.1 kv.2⟩

/-- The stages, as (level, bit of the distance). -/
def stages : List (Fin 10 × Fin 10) :=
  [(0, 0),
   (1, 1), (1, 0),
   (2, 2), (2, 1), (2, 0),
   (3, 3), (3, 2), (3, 1), (3, 0),
   (4, 4), (4, 3), (4, 2), (4, 1), (4, 0),
   (5, 5), (5, 4), (5, 3), (5, 2), (5, 1), (5, 0),
   (6, 6), (6, 5), (6, 4), (6, 3), (6, 2), (6, 1), (6, 0),
   (7, 7), (7, 6), (7, 5), (7, 4), (7, 3), (7, 2), (7, 1), (7, 0),
   (8, 8), (8, 7), (8, 6), (8, 5), (8, 4), (8, 3), (8, 2), (8, 1), (8, 0),
   (9, 9), (9, 8), (9, 7), (9, 6), (9, 5), (9, 4), (9, 3), (9, 2), (9, 1), (9, 0)]

/-- The keys and the values after all the stages. -/
def sorted (key val : FVec F S1024x128 .f32) : FVec F S1024x128 .f32 × FVec F S1024x128 .f32 :=
  stages.foldl stageStep (key, val)

/-- The float word `w` everywhere. -/
def splat (s : Shape) (w : BitVec 32) : FVec F s .f32 := broadcast s (Scalar.ofBits .f32 w : F .f32)

/-- Whether a row's key is not the padding value. -/
def valid (key : FVec F S1024x128 .f32) : IVec S1024x128 1 := cmpf .one key (splat S1024x128 0xBF800000#32)

/-- The greatest value of a column's valid rows. -/
def colMax (key val : FVec F S1024x128 .f32) : FVec F S1x128 .f32 :=
  shapeCast S1x128
    (multiReduction .maximumf [0] S128 (select (valid key) val (splat S1024x128 0xFF800000#32)) 0xFF800000#32
      reduces_S1024x128_S128 (.inl rfl) rfl) shapeCasts_S128_S1x128

/-- The values less the column's greatest. -/
def shifted (key val : FVec F S1024x128 .f32) : FVec F S1024x128 .f32 :=
  subf val (broadcastTo S1024x128 (colMax key val) broadcasts_S1x128_S1024x128)

/-- The exponentials of the valid rows, zero elsewhere. -/
def expRows (key val : FVec F S1024x128 .f32) : FVec F S1024x128 .f32 :=
  select (valid key) (exp (shifted key val)) (splat S1024x128 0x00000000#32)

/-- Each row plus the row `2 ^ s` below it, zero past the end. -/
def addBelow (x : FVec F S1024x128 .f32) (s : Fin 10) : FVec F S1024x128 .f32 :=
  addf x (concatenate S1024x128 0
    [⟨Rows (1024 - 2 ^ s.val), extractStridedSlice (Rows (1024 - 2 ^ s.val)) ![2 ^ s.val, 0] x
        (slice_from s)⟩,
      ⟨Rows (2 ^ s.val), splat (Rows (2 ^ s.val)) 0x00000000#32⟩]
    (concat_from_first s))

/-- The sums from each row down. -/
def suffixSums (x : FVec F S1024x128 .f32) : FVec F S1024x128 .f32 :=
  ([0, 1, 2, 3, 4, 5, 6, 7, 8, 9] : List (Fin 10)).foldl addBelow x

/-- `log (row + 2)`. -/
def weight : FVec F S1024x1 .f32 :=
  log (addf (sitofp .f32 (iota .tc S1024x1 32 [0] iota_S1024x1_d0_w32)) (splat S1024x1 0x40000000#32))

/-- The loss of each row's observation, zero at padding. -/
def obsLoss (key val : FVec F S1024x128 .f32) : FVec F S1024x128 .f32 :=
  select (valid key)
    (divf
      (subf (log (addf (suffixSums (expRows key val)) (splat S1024x128 0x2EDBE6FF#32))) (shifted key val))
      (broadcastTo S1024x128 weight broadcasts_S1024x1_S1024x128))
    (splat S1024x128 0x00000000#32)

/-- The loss of each column. -/
def lossOf (key val : FVec F S1024x128 .f32) : FVec F S1x128 .f32 :=
  shapeCast S1x128
    (multiReduction .add [0] S128 (obsLoss key val) 0x00000000#32 reduces_S1024x128_S128 (.inl rfl) rfl)
    shapeCasts_S128_S1x128

/-- What the body computes from the block of targets and the block of predictions. -/
def blockLoss (yt yp : Vec F S1024x128 .f32) : Vec F S1x128 .f32 :=
  let kv := sorted (shapeCast S1024x128 yt shapeCasts_S1024x128_S1024x128)
    (shapeCast S1024x128 yp shapeCasts_S1024x128_S1024x128)
  lossOf kv.1 kv.2

/-- What the body stores is `blockLoss` of the two blocks it loads, at every grid point and over any values. -/
theorem out_eq (c : Dev nD) (i : grid0.Coords) (arg1 : Memref sig .tc .vmem S1024x128 .f32) (harg1 : arg1.IsWhole)
    (arg2 : Memref sig .tc .vmem S1024x128 .f32) (harg2 : arg2.IsWhole)
    (arg3 : Memref sig .tc .vmem S1x128 .f32) (harg3 : arg3.IsWhole)
    (arg4 : Memref sig .tc .vmem S8x128 .f32) (harg4 : arg4.IsWhole) (x0 x1 : Vec F S1024x128 .f32) :
    out0_A_2 c i arg1 harg1 arg2 harg2 arg3 harg3 arg4 harg4 x0 x1 = blockLoss x0 x1 := by
  frame_out
  sl_kernel_rfl

end Cert.KernelIdeal.Block

end
-- ==== Proof.Network.lean ====
/-
  The 55 stages sort every column. A column of a pair of blocks is 1024 entries (key, value); one stage acts on it as a
  stage of Batcher's bitonic network, each exchange deciding by the keys alone (`stage_entries`), and the stages in their
  order are the whole network (`stages_net`). So the sorted keys descend, and keys and values are the column's own entries
  under one permutation (`sorted_perm`).
-/
module

public import proofs.«01_k».proof.Proof.Block
public import Idealize.ShloMosaic.Lib.SortNet.Printed
public import Idealize.ShloMosaic.Lib.SortNet.Keyed
public import Idealize.ShloMosaic.Lib.SortNet.Sorts

@[expose] public section

set_option maxRecDepth 16384

noncomputable section

namespace Cert.KernelIdeal.Block

open Idealize.ShloMosaic Idealize.SL.Sem Idealize.ShloMosaic.SortNet Idealize.ShloMosaic.Pointwise
open Cert.KernelIdeal Cert.KernelIdeal.Gen

/-- Lane `q` of a block, as the positions of a network. -/
def lane (q : Fin 128) : Column S1024x128 0 10 where
  col i := ix2 i q
  size_eq := rfl
  coord _ := rfl
  other i i' b hb := by
    match b with
    | ⟨0, _⟩ => exact absurd rfl hb
    | ⟨1, _⟩ => rfl

/-- Bit `b` of the row number, as the kernel computes it. -/
theorem bitClear_lane (q : Fin 128) (b : Nat) (hb : b ≤ 10) (i : Fin (2 ^ 10)) :
    bitClear b ((lane q).col i) = BitVec.ofBool (decide (i.val &&& 2 ^ b = 0)) := by
  have hi : i.val < 2 ^ 32 := Nat.lt_of_lt_of_le i.isLt (Nat.pow_le_pow_right (by decide) (by decide))
  have hw : (BitVec.ofNat 32 (2 ^ b)).toNat = 2 ^ b := by
    rw [BitVec.toNat_ofNat]
    exact Nat.mod_eq_of_lt (Nat.pow_lt_pow_right (by decide) (by omega))
  show BitVec.ofBool (IntOp.andi (rowNo ((lane q).col i)) (BitVec.ofNat 32 (2 ^ b)) == 0#32) = _
  rw [show rowNo ((lane q).col i) = BitVec.ofNat 32 i.val from (lane q).iota_apply .tc _ i]
  congr 1
  rw [Bool.eq_iff_iff, beq_iff_eq, decide_eq_true_eq, and_distance_eq_zero_iff hi _ hw]

/-- Where bit `s` of the row number is clear the rotation up brings the partner's element. -/
theorem rotUp_lane (q : Fin 128) (s : Fin 10) (x : FVec Ideal S1024x128 .f32) (i : Fin (2 ^ 10))
    (hi : i.val &&& 2 ^ s.val = 0) : rotUp s x ((lane q).col i) = x ((lane q).col (partner 10 s.val i)) := by
  have hv := partner_val_of_clear s.isLt i hi
  have hp := (partner 10 s.val i).isLt
  have h1 : i.val < 1024 - 2 ^ s.val := by
    have : (2 : Nat) ^ 10 = 1024 := rfl
    omega
  unfold rotUp
  rw [concatenate_pair_apply_left (s₁ := Rows (1024 - 2 ^ s.val)) 0 _ _ (concat_from_first s) ((lane q).col i) rfl
    (ix2 ⟨i.val, h1⟩ q) (fun b => by fin_cases b <;> rfl)]
  exact extractStridedSlice_apply _ x _ _ _ (fun a => by
    fin_cases a
    · show (partner 10 s.val i).val = 2 ^ s.val + i.val
      omega
    · show q.val = 0 + q.val
      omega)

/-- Where bit `s` is set the rotation down brings the partner's element. -/
theorem rotDown_lane (q : Fin 128) (s : Fin 10) (x : FVec Ideal S1024x128 .f32) (i : Fin (2 ^ 10))
    (hi : i.val &&& 2 ^ s.val ≠ 0) : rotDown s x ((lane q).col i) = x ((lane q).col (partner 10 s.val i)) := by
  obtain ⟨hle, hv⟩ := partner_val_of_set s.isLt i hi
  have h1 : i.val - 2 ^ s.val < 1024 - 2 ^ s.val := by
    have : (2 : Nat) ^ 10 = 1024 := rfl
    have := i.isLt
    omega
  unfold rotDown
  rw [concatenate_pair_apply_right (s₁ := Rows (2 ^ s.val)) (s₂ := Rows (1024 - 2 ^ s.val)) 0 _ _ (concat_last_init s)
    ((lane q).col i) rfl rfl (ix2 ⟨i.val - 2 ^ s.val, h1⟩ q)
    (fun b hb => by
      fin_cases b
      · exact absurd rfl hb
      · rfl)
    (show i.val - 2 ^ s.val + 2 ^ s.val = i.val by omega)]
  exact extractStridedSlice_apply _ x _ _ _ (fun a => by
    fin_cases a
    · show (partner 10 s.val i).val = 0 + (i.val - 2 ^ s.val)
      omega
    · show q.val = 0 + q.val
      omega)

/-- The partner's element, at every row. -/
theorem partnerRow_lane (q : Fin 128) (s : Fin 10) (x : FVec Ideal S1024x128 .f32) (i : Fin (2 ^ 10)) :
    partnerRow s x ((lane q).col i) = x ((lane q).col (partner 10 s.val i)) := by
  show Scalar.select (bitClear s.val ((lane q).col i)) _ _ = _
  rw [bitClear_lane q s.val (by omega) i, select_ofBool]
  by_cases h : i.val &&& 2 ^ s.val = 0
  · rw [decide_eq_true h, if_pos rfl, rotUp_lane q s x i h]
  · rw [decide_eq_false h, if_neg Bool.false_ne_true, rotDown_lane q s x i h]

/-- Whether row `i` of lane `q` takes its partner's entry: with the greater key for it where bits `s` and `l + 1` of the
    row agree, with the less elsewhere. -/
theorem took_lane (q : Fin 128) (l s : Fin 10) (key : FVec Ideal S1024x128 .f32) (i : Fin (2 ^ 10)) :
    took l s key ((lane q).col i) = BitVec.ofBool
      (if decide (i.val &&& 2 ^ s.val = 0) = decide (i.val &&& 2 ^ (l.val + 1) = 0)
        then decide (key ((lane q).col i) < key ((lane q).col (partner 10 s.val i)))
        else decide (key ((lane q).col (partner 10 s.val i)) < key ((lane q).col i))) := by
  have ht : takeMax l s ((lane q).col i)
      = BitVec.ofBool (decide (decide (i.val &&& 2 ^ s.val = 0) = decide (i.val &&& 2 ^ (l.val + 1) = 0))) := by
    show IntOp.xori (IntOp.xori (bitClear s.val ((lane q).col i)) (bitClear (l.val + 1) ((lane q).col i))) 1#1 = _
    rw [bitClear_lane q s.val (by omega) i, bitClear_lane q (l.val + 1) (by omega) i, ofBool_xor_xor_one]
  show IntOp.ori (IntOp.andi (takeMax l s ((lane q).col i))
      (Ideal.cmp .ogt (partnerRow s key ((lane q).col i)) (key ((lane q).col i))))
    (IntOp.andi (IntOp.xori (takeMax l s ((lane q).col i)) 1#1)
      (Ideal.cmp .olt (partnerRow s key ((lane q).col i)) (key ((lane q).col i)))) = _
  rw [partnerRow_lane, ht]
  unfold Ideal.cmp
  dsimp only
  generalize decide (key ((lane q).col i) < key ((lane q).col (partner 10 s.val i))) = a
  generalize decide (key ((lane q).col (partner 10 s.val i)) < key ((lane q).col i)) = b
  by_cases h : decide (i.val &&& 2 ^ s.val = 0) = decide (i.val &&& 2 ^ (l.val + 1) = 0)
  · rw [if_pos h, decide_eq_true h]; cases a <;> cases b <;> rfl
  · rw [if_neg h, decide_eq_false h]; cases a <;> cases b <;> rfl

/-- The entries (key, value) of lane `q`. -/
def entries (q : Fin 128) (kv : FVec Ideal S1024x128 .f32 × FVec Ideal S1024x128 .f32) (i : Fin (2 ^ 10)) : EReal × EReal :=
  (kv.1 ((lane q).col i), kv.2 ((lane q).col i))

/-- The direction of level `l`'s stages: the greater entries first where bit `l + 1` is clear. -/
def low (l : Nat) (i : Fin (2 ^ 10)) : Bool := decide (i.val &&& 2 ^ (l + 1) = 0) == true

/-- A stage of the network on any entries, read at one position. -/
theorem applyBy_stage (l s : Nat) (hs : s < 10) (hsl : s ≤ l) (v : Fin (2 ^ 10) → EReal × EReal) (i : Fin (2 ^ 10)) :
    Network.applyBy Prod.fst (stage 10 s (low l)) v i =
      if (if decide (i.val &&& 2 ^ s = 0) = decide (i.val &&& 2 ^ (l + 1) = 0) then decide ((v i).1 < (v (partner 10 s i)).1)
        else decide ((v (partner 10 s i)).1 < (v i).1)) = true then v (partner 10 s i) else v i := by
  have hlow : low l (partner 10 s i) = low l i := sizeClear_partner hs hsl true i
  have hlow' : ∀ j, low l j = decide (j.val &&& 2 ^ (l + 1) = 0) := fun j => by simp [low]
  by_cases h0 : i.val &&& 2 ^ s = 0
  · have hne : i ≠ partner 10 s i := fun e => partner_ne hs i i h0 h0 e.symm
    have hm := Network.applyBy_of_mem_of_disjoint Prod.fst _ (stage_pairwise_disjoint hs (low l)) _
      (mem_stage.mpr ⟨i, h0, hne, rfl⟩) v
    unfold stageCmpx at hm
    by_cases hw : low l i = true
    · rw [if_pos hw] at hm
      have hd := (hlow' i).symm.trans hw
      rw [hm.2, decide_eq_true h0, hd, if_pos (rfl : true = true)]
      simp only [decide_eq_true_eq]
    · rw [if_neg hw] at hm
      have hd := (hlow' i).symm.trans (Bool.eq_false_iff.mpr hw)
      rw [hm.1, decide_eq_true h0, hd, if_neg (nofun : ¬ true = false)]
      simp only [decide_eq_true_eq]
  · have h1 := partner_and_of_set hs i h0
    have hpp := partner_partner hs i
    have hne : partner 10 s i ≠ partner 10 s (partner 10 s i) := fun e => partner_ne hs _ _ h1 h1 e.symm
    have hm := Network.applyBy_of_mem_of_disjoint Prod.fst _ (stage_pairwise_disjoint hs (low l)) _
      (mem_stage.mpr ⟨partner 10 s i, h1, hne, rfl⟩) v
    unfold stageCmpx at hm
    by_cases hw : low l (partner 10 s i) = true
    · rw [if_pos hw] at hm
      simp only [hpp] at hm
      have hd := (hlow' i).symm.trans (hlow.symm.trans hw)
      rw [hm.1, decide_eq_false h0, hd, if_neg (nofun : ¬ false = true)]
      simp only [decide_eq_true_eq]
    · rw [if_neg hw] at hm
      simp only [hpp] at hm
      have hd := (hlow' i).symm.trans (hlow.symm.trans (Bool.eq_false_iff.mpr hw))
      rw [hm.2, decide_eq_false h0, hd, if_pos (rfl : false = false)]
      simp only [decide_eq_true_eq]

/-- One stage of the kernel is one stage of the network on every lane's entries. -/
theorem stage_entries (q : Fin 128) (l s : Fin 10) (hsl : s ≤ l) (kv : FVec Ideal S1024x128 .f32 × FVec Ideal S1024x128 .f32) :
    entries q (stageStep kv (l, s)) = Network.applyBy Prod.fst (stage 10 s.val (low l.val)) (entries q kv) := by
  funext i
  rw [applyBy_stage l.val s.val s.isLt hsl]
  have h := took_lane q l s kv.1 i
  have e : ∀ x : FVec Ideal S1024x128 .f32, stageOn l s kv.1 x ((lane q).col i)
      = Scalar.select (took l s kv.1 ((lane q).col i)) (x ((lane q).col (partner 10 s.val i))) (x ((lane q).col i)) := by
    intro x
    rw [← partnerRow_lane q s x i]
    rfl
  show (stageOn l s kv.1 kv.1 ((lane q).col i), stageOn l s kv.1 kv.2 ((lane q).col i)) = _
  rw [e, e, h, select_ofBool, select_ofBool]
  unfold entries
  dsimp only
  by_cases hc : decide (i.val &&& 2 ^ s.val = 0) = decide (i.val &&& 2 ^ (l.val + 1) = 0)
  · simp only [if_pos hc]
    split <;> rfl
  · simp only [if_neg hc]
    split <;> rfl

/-- The stages in their order are the bitonic network on 1024 positions, descending. -/
theorem stages_net : (stages.flatMap fun c => stage 10 c.2.val (low c.1.val)) = sortNet 10 true := by
  have h : (stages.map fun c => (c.1.val, c.2.val))
      = (List.range 10).flatMap fun l => (List.range (l + 1)).reverse.map fun s => (l, s) := by decide
  have e : (stages.flatMap fun c => stage 10 c.2.val (low c.1.val))
      = (stages.map fun c => (c.1.val, c.2.val)).flatMap fun c => stage 10 c.2 (low c.1) := by
    rw [List.flatMap_map]
  rw [e, h, List.flatMap_assoc]
  unfold sortNet
  congr 1
  funext l
  rw [List.flatMap_map]
  rfl

/-- Every stage's distance fits its level. -/
theorem stages_le : ∀ c ∈ stages, c.2 ≤ c.1 := by decide

/-- A run of stages on the kernel's pair of blocks is the same run of network stages on every lane's entries. -/
theorem foldl_entries (q : Fin 128) (cs : List (Fin 10 × Fin 10)) (hcs : ∀ c ∈ cs, c.2 ≤ c.1)
    (kv : FVec Ideal S1024x128 .f32 × FVec Ideal S1024x128 .f32) :
    entries q (cs.foldl stageStep kv)
      = Network.applyBy Prod.fst (cs.flatMap fun c => stage 10 c.2.val (low c.1.val)) (entries q kv) := by
  induction cs generalizing kv with
  | nil => rfl
  | cons c cs ih =>
    rw [List.foldl_cons, ih (fun d hd => hcs d (List.mem_cons_of_mem c hd)), List.flatMap_cons, Network.applyBy_append,
      stage_entries q c.1 c.2 (hcs c List.mem_cons_self)]

/-- The sorted keys of a lane descend. -/
theorem sorted_antitone (q : Fin 128) (key val : FVec Ideal S1024x128 .f32) :
    Antitone fun i : Fin (2 ^ 10) => (sorted key val).1 ((lane q).col i) := by
  have h := foldl_entries q stages stages_le (key, val)
  rw [stages_net] at h
  have hk := Network.key_comp_applyBy (Prod.fst : EReal × EReal → EReal) (sortNet 10 true) (entries q (key, val))
  rw [← h] at hk
  have ha := sortNet_apply_antitone 10 ((Prod.fst : EReal × EReal → EReal) ∘ entries q (key, val))
  rw [← hk] at ha
  exact ha

/-- The sorted entries of a lane are its entries under one permutation. -/
theorem sorted_perm (q : Fin 128) (key val : FVec Ideal S1024x128 .f32) :
    ∃ σ : Equiv.Perm (Fin (2 ^ 10)), ∀ i, (sorted key val).1 ((lane q).col i) = key ((lane q).col (σ i))
      ∧ (sorted key val).2 ((lane q).col i) = val ((lane q).col (σ i)) := by
  have h := foldl_entries q stages stages_le (key, val)
  obtain ⟨σ, hσ⟩ := Network.exists_perm_applyBy (Prod.fst : EReal × EReal → EReal)
    (stages.flatMap fun c => stage 10 c.2.val (low c.1.val)) (entries q (key, val))
  rw [hσ] at h
  exact ⟨σ, fun i => ⟨congrArg Prod.fst (congrFun h i), congrArg Prod.snd (congrFun h i)⟩⟩

end Cert.KernelIdeal.Block

end
-- ==== Proof.Loss.lean ====
/-
  The mathematics of one row: the loss of 1024 targets `k` and predictions `v` in the order they stand (`rowLoss`), and
  that it does not depend on which descending order of the targets is taken, where equal targets are padding
  (`rowLoss_unique`).
-/
module

public import Idealize.ShloMosaic.Lib.Pointwise
public import Mathlib.Data.List.Sort
public import Mathlib.Data.List.FinRange

@[expose] public section

noncomputable section

namespace Cert.ListMLE

open Idealize.ShloMosaic

/-- The target that marks padding, `-1`. -/
def pad : EReal := Ideal.ofBits .f32 0xBF800000#32

/-- `-∞`, the prediction padding takes. -/
def negInf : EReal := Ideal.ofBits .f32 0xFF800000#32

/-- The number added under the logarithm. -/
def eps : EReal := Ideal.ofBits .f32 0x2EDBE6FF#32

/-- 1024 numbers. -/
abbrev Row := Fin 1024 → EReal

/-- The greatest prediction of the items that are not padding. -/
def top (k v : Row) : EReal := Finset.univ.fold max negInf fun i => if k i = pad then negInf else v i

/-- The exponential of a prediction less the greatest, zero at padding. -/
def expo (k v : Row) : Row := fun i => if k i = pad then 0 else Ideal.exp (v i - top k v)

/-- The sum of the exponentials from an item on. -/
def tail (k v : Row) : Row := fun i => ∑ j : Fin 1024, if i ≤ j then expo k v j else 0

/-- The weight of position `i`, `log (i + 2)`. -/
def wt : Row := fun i => Ideal.log ((((BitVec.ofNat 32 i.val).toInt : ℝ) : EReal) + Ideal.ofBits .f32 0x40000000#32)

/-- The loss of one item. -/
def obs (k v : Row) : Row := fun i =>
  if k i = pad then 0 else Ideal.div (Ideal.log (tail k v i + eps) - (v i - top k v)) (wt i)

/-- The loss of a row in its order. -/
def rowLoss (k v : Row) : EReal := ∑ i, obs k v i

/-- The pattern of `-∞` is the least extended real. -/
theorem negInf_eq : negInf = ⊥ := by
  unfold negInf
  simp [Ideal.ofBits, Ideal.ieee]

/-- No position's weight is zero. -/
theorem wt_ne_zero (i : Fin 1024) : wt i ≠ 0 := by
  have h2 : Ideal.ofBits .f32 0x40000000#32 = ((2 : ℝ) : EReal) := by
    simp [Ideal.ofBits, Ideal.ieee]
    rw [← EReal.coe_mul]
    norm_num
  have hi : ((BitVec.ofNat 32 i.val).toInt : ℝ) = (i.val : ℝ) := by
    have : (BitVec.ofNat 32 i.val).toInt = (i.val : ℤ) := by
      have hn : (BitVec.ofNat 32 i.val).toNat = i.val := by
        rw [BitVec.toNat_ofNat]
        omega
      rw [BitVec.toInt_eq_toNat_of_lt (by omega), hn]
    rw [this]
    norm_cast
  unfold wt
  rw [h2, hi, ← EReal.coe_add]
  have hp : (0 : ℝ) ≤ (i.val : ℝ) := Nat.cast_nonneg _
  show (if (i.val : ℝ) + 2 ≤ 0 then ⊥ else ((Real.log ((i.val : ℝ) + 2) : ℝ) : EReal)) ≠ 0
  rw [if_neg (by linarith)]
  have := Real.log_pos (show (1 : ℝ) < (i.val : ℝ) + 2 by linarith)
  exact_mod_cast this.ne'

/-- Predictions count only where the target is not padding. -/
theorem rowLoss_congr (k v v' : Row) (h : ∀ i, k i ≠ pad → v i = v' i) : rowLoss k v = rowLoss k v' := by
  have ht : top k v = top k v' := by
    unfold top
    congr 1
    funext i
    by_cases hi : k i = pad
    · rw [if_pos hi, if_pos hi]
    · rw [if_neg hi, if_neg hi, h i hi]
  have he : expo k v = expo k v' := by
    funext i
    unfold expo
    by_cases hi : k i = pad
    · rw [if_pos hi, if_pos hi]
    · rw [if_neg hi, if_neg hi, h i hi, ht]
  unfold rowLoss
  refine Finset.sum_congr rfl fun i _ => ?_
  unfold obs tail
  by_cases hi : k i = pad
  · rw [if_pos hi, if_pos hi]
  · rw [if_neg hi, if_neg hi, h i hi, ht, he]

/-- Two descending orders of the same numbers agree. -/
theorem antitone_unique (y : Row) (σ τ : Equiv.Perm (Fin 1024)) (hσ : Antitone (y ∘ σ)) (hτ : Antitone (y ∘ τ)) :
    y ∘ σ = y ∘ τ := by
  have e : ∀ π : Equiv.Perm (Fin 1024), Antitone (y ∘ π) → (List.ofFn (y ∘ π)).Pairwise (· ≥ ·) := fun π hπ =>
    List.pairwise_ofFn.mpr fun _ _ hij => hπ hij.le
  exact List.ofFn_injective (((σ.ofFn_comp_perm y).trans (τ.ofFn_comp_perm y).symm).eq_of_pairwise' (e σ hσ) (e τ hτ))

/-- The loss is that of any descending order of the targets, if targets that are equal are padding. -/
theorem rowLoss_unique (y p : Row) (hy : ∀ i j, i ≠ j → y i = y j → y i = pad) (σ τ : Equiv.Perm (Fin 1024))
    (hσ : Antitone (y ∘ σ)) (hτ : Antitone (y ∘ τ)) : rowLoss (y ∘ σ) (p ∘ σ) = rowLoss (y ∘ τ) (p ∘ τ) := by
  have h := antitone_unique y σ τ hσ hτ
  rw [h]
  refine rowLoss_congr _ _ _ fun i hi => ?_
  have hi' : y (σ i) = y (τ i) := congrFun h i
  by_cases e : σ i = τ i
  · exact congrArg p e
  · exact absurd (hi'.symm.trans (hy _ _ e hi')) hi

end Cert.ListMLE

end
-- ==== Proof.Column.lean ====
/-
  What the kernel computes of one lane of a block, in the extended reals: the loss of that lane's 1024 sorted targets and
  predictions (`lossOf_lane`). The ten doubling additions are the sums from each row down (`suffixSums_lane`).
-/
module

public import proofs.«01_k».proof.Proof.Network
public import proofs.«01_k».proof.Proof.Loss

@[expose] public section

set_option maxRecDepth 16384

noncomputable section

namespace Cert.KernelIdeal.Block

open Idealize.ShloMosaic Idealize.SL.Sem
open Cert.KernelIdeal Cert.KernelIdeal.Gen Cert.ListMLE

/-- Row `n` of lane `q`, zero past the end. -/
def ext (q : Fin 128) (x : FVec Ideal S1024x128 .f32) (n : Nat) : EReal :=
  if h : n < 1024 then x (ix2 ⟨n, h⟩ q) else 0

/-- One doubling adds the row `2 ^ s` further down. -/
theorem ext_addBelow (q : Fin 128) (x : FVec Ideal S1024x128 .f32) (s : Fin 10) (n : Nat) :
    ext q (addBelow x s) n = ext q x n + ext q x (n + 2 ^ s.val) := by
  have hs : 2 ^ s.val < 1024 := pow_lt s
  unfold ext
  by_cases hn : n < 1024
  · rw [dif_pos hn, dif_pos hn]
    unfold addBelow
    show x (ix2 ⟨n, hn⟩ q) + concatenate S1024x128 0 _ _ (ix2 ⟨n, hn⟩ q) = _
    congr 1
    by_cases h1 : n + 2 ^ s.val < 1024
    · rw [dif_pos h1, concatenate_pair_apply_left (s₁ := Rows (1024 - 2 ^ s.val)) 0 _ _ (concat_from_first s)
        (ix2 ⟨n, hn⟩ q) rfl (ix2 ⟨n, by omega⟩ q) (fun b => by fin_cases b <;> rfl)]
      exact extractStridedSlice_apply _ x _ _ _ (fun a => by
        fin_cases a
        · show n + 2 ^ s.val = 2 ^ s.val + n
          omega
        · show q.val = 0 + q.val
          omega)
    · rw [dif_neg h1, concatenate_pair_apply_right (s₁ := Rows (1024 - 2 ^ s.val)) (s₂ := Rows (2 ^ s.val)) 0 _ _
        (concat_from_first s) (ix2 ⟨n, hn⟩ q) rfl rfl (ix2 ⟨n - (1024 - 2 ^ s.val), by omega⟩ q)
        (fun b hb => by
          fin_cases b
          · exact absurd rfl hb
          · rfl)
        (show n - (1024 - 2 ^ s.val) + (1024 - 2 ^ s.val) = n by omega)]
      exact Ideal.ofBits_zero_f32
  · rw [dif_neg hn, dif_neg hn, dif_neg (fun h => hn (Nat.lt_of_le_of_lt (Nat.le_add_right n (2 ^ s.val)) h)), add_zero]

/-- After the first `k` doublings each row holds the sum of `2 ^ k` rows. -/
def Sums (q : Fin 128) (x : FVec Ideal S1024x128 .f32) (k : Nat) (y : FVec Ideal S1024x128 .f32) : Prop :=
  ∀ n, ext q y n = ∑ j ∈ Finset.range (2 ^ k), ext q x (n + j)

/-- One doubling more. -/
theorem Sums.step {q : Fin 128} {x y : FVec Ideal S1024x128 .f32} {k : Nat} (h : Sums q x k y) (s : Fin 10)
    (hs : s.val = k) : Sums q x (k + 1) (addBelow y s) := by
  intro n
  rw [ext_addBelow, h, h, hs, pow_succ, Nat.mul_two, Finset.sum_range_add]
  congr 1
  refine Finset.sum_congr rfl fun j _ => ?_
  rw [Nat.add_assoc]

/-- The ten doublings give the sums from each row down. -/
theorem suffixSums_lane (q : Fin 128) (x : FVec Ideal S1024x128 .f32) (i : Fin 1024) :
    suffixSums x (ix2 i q) = ∑ j : Fin 1024, if i ≤ j then x (ix2 j q) else 0 := by
  have h0 : Sums q x 0 x := fun n => by simp
  have h : Sums q x 10 (suffixSums x) :=
    (((((((((h0.step 0 rfl).step 1 rfl).step 2 rfl).step 3 rfl).step 4 rfl).step 5 rfl).step 6 rfl).step 7 rfl).step 8
      rfl).step 9 rfl
  have hi := h i.val
  unfold ext at hi
  rw [dif_pos i.isLt] at hi
  refine Eq.trans hi ?_
  have hg : ∀ j : Fin 1024, (if i ≤ j then x (ix2 j q) else 0)
      = (fun n : Nat => if i.val ≤ n then ext q x n else 0) j.val := fun j => by
    unfold ext
    show _ = if i ≤ j then _ else _
    rw [dif_pos j.isLt]
  rw [Finset.sum_congr rfl fun j _ => hg j, Fin.sum_univ_eq_sum_range (fun n => if i.val ≤ n then ext q x n else 0) 1024]
  obtain ⟨d, hd⟩ : ∃ d, 1024 = i.val + d := ⟨1024 - i.val, by omega⟩
  have hl : ∑ j ∈ Finset.range (2 ^ 10), ext q x (i.val + j) = ∑ j ∈ Finset.range d, ext q x (i.val + j) := by
    rw [show (2 : Nat) ^ 10 = d + i.val by omega, Finset.sum_range_add,
      Finset.sum_eq_zero (s := Finset.range i.val) fun j _ => dif_neg (by omega), add_zero]
  have hr : ∑ n ∈ Finset.range 1024, (if i.val ≤ n then ext q x n else 0) = ∑ j ∈ Finset.range d, ext q x (i.val + j) := by
    rw [show Finset.range 1024 = Finset.range (i.val + d) from congrArg Finset.range hd, Finset.sum_range_add, Finset.sum_eq_zero (s := Finset.range i.val)
      fun j hj => if_neg (by have := Finset.mem_range.mp hj; omega), zero_add]
    exact Finset.sum_congr rfl fun j _ => if_pos (by omega)
  exact hl.trans hr.symm

/-- A choice by `valid`, at one row. -/
theorem select_valid (key a b : FVec Ideal S1024x128 .f32) (j : S1024x128.Idx) :
    select (valid key) a b j = if key j = pad then b j else a j := by
  show (if BitVec.ofBool (decide (key j ≠ pad)) = 1#1 then a j else b j) = _
  by_cases h : key j = pad
  · rw [if_pos h, decide_eq_false (not_not.mpr h), if_neg (by decide)]
  · rw [if_neg h, decide_eq_true h, if_pos (by decide)]

/-- The greatest of a lane's rows. -/
theorem max_lane (x : FVec Ideal S1024x128 .f32) (q : Fin 128) :
    shapeCast S1x128 (multiReduction .maximumf [0] S128 x 0xFF800000#32 reduces_S1024x128_S128 (.inl rfl) rfl)
      shapeCasts_S128_S1x128 (ix2 0 q) = Finset.univ.fold max negInf fun i : Fin 1024 => x (ix2 i q) := by
  pointwise
  rfl

/-- The sum of a lane's rows. -/
theorem sum_lane (x : FVec Ideal S1024x128 .f32) (q : Fin 128) :
    shapeCast S1x128 (multiReduction .add [0] S128 x 0x00000000#32 reduces_S1024x128_S128 (.inl rfl) rfl)
      shapeCasts_S128_S1x128 (ix2 0 q) = ∑ i : Fin 1024, x (ix2 i q) := by
  pointwise

/-- The greatest prediction of a lane. -/
theorem colMax_lane (key val : FVec Ideal S1024x128 .f32) (q : Fin 128) :
    colMax key val (ix2 0 q) = top (fun i => key (ix2 i q)) (fun i => val (ix2 i q)) := by
  unfold colMax
  rw [max_lane]
  simp only [select_valid]
  rfl

/-- A prediction less the greatest. -/
theorem shifted_lane (key val : FVec Ideal S1024x128 .f32) (i : Fin 1024) (q : Fin 128) :
    shifted key val (ix2 i q) = val (ix2 i q) - top (fun i => key (ix2 i q)) (fun i => val (ix2 i q)) := by
  unfold shifted
  pointwise
  rw [colMax_lane]

/-- The exponential of a row. -/
theorem expRows_lane (key val : FVec Ideal S1024x128 .f32) (i : Fin 1024) (q : Fin 128) :
    expRows key val (ix2 i q) = expo (fun i => key (ix2 i q)) (fun i => val (ix2 i q)) i := by
  unfold expRows
  rw [select_valid]
  unfold expo
  by_cases h : key (ix2 i q) = pad
  · rw [if_pos h, if_pos h]
    exact Ideal.ofBits_zero_f32
  · rw [if_neg h, if_neg h]
    exact congrArg Ideal.exp (shifted_lane key val i q)

/-- The weight of a row. -/
theorem weight_row (i : Fin 1024) : weight (F := Ideal) (ix2 i 0) = wt i := by
  unfold weight wt
  pointwise
  rfl

/-- The weight of a row, over the lanes. -/
theorem weight_lane (i : Fin 1024) (q : Fin 128) :
    broadcastTo S1024x128 (weight (F := Ideal)) broadcasts_S1024x1_S1024x128 (ix2 i q) = wt i := by
  rw [← weight_row]
  pointwise

/-- The loss of one row. -/
theorem obsLoss_lane (key val : FVec Ideal S1024x128 .f32) (i : Fin 1024) (q : Fin 128) :
    obsLoss key val (ix2 i q) = obs (fun i => key (ix2 i q)) (fun i => val (ix2 i q)) i := by
  have ht : suffixSums (expRows key val) (ix2 i q) = tail (fun i => key (ix2 i q)) (fun i => val (ix2 i q)) i := by
    rw [suffixSums_lane]
    simp only [expRows_lane]
    rfl
  unfold obsLoss
  rw [select_valid]
  unfold obs
  by_cases h : key (ix2 i q) = pad
  · rw [if_pos h, if_pos h]
    exact Ideal.ofBits_zero_f32
  · rw [if_neg h, if_neg h, ← ht, ← shifted_lane, ← weight_lane i q]
    rfl

/-- The loss the kernel writes for a lane is the loss of the lane's rows in the order they stand. -/
theorem lossOf_lane (key val : FVec Ideal S1024x128 .f32) (q : Fin 128) :
    lossOf key val (ix2 0 q) = rowLoss (fun i => key (ix2 i q)) (fun i => val (ix2 i q)) := by
  unfold lossOf
  rw [sum_lane]
  simp only [obsLoss_lane]
  rfl

/-- The loss the body stores for a lane is the loss of the lane's targets and predictions under some permutation that
    puts the targets in descending order. -/
theorem blockLoss_lane (yt yp : Vec Ideal S1024x128 .f32) (q : Fin 128) :
    ∃ σ : Equiv.Perm (Fin 1024), Antitone ((fun i : Fin 1024 => (yt (ix2 i q) : EReal)) ∘ σ)
      ∧ blockLoss yt yp (ix2 0 q) = rowLoss ((fun i : Fin 1024 => yt (ix2 i q)) ∘ σ) ((fun i : Fin 1024 => yp (ix2 i q)) ∘ σ) := by
  unfold blockLoss
  rw [shapeCast_self, shapeCast_self]
  obtain ⟨σ, hσ⟩ := sorted_perm q yt yp
  have ha := sorted_antitone q yt yp
  generalize sorted (F := Ideal) yt yp = kv at hσ ha ⊢
  have h1 : (fun i : Fin 1024 => kv.1 (ix2 i q)) = (fun i : Fin 1024 => yt (ix2 i q)) ∘ σ :=
    funext fun i => (hσ i).1
  have h2 : (fun i : Fin 1024 => kv.2 (ix2 i q)) = (fun i : Fin 1024 => yp (ix2 i q)) ∘ σ :=
    funext fun i => (hσ i).2
  refine ⟨σ, ?_, ?_⟩
  · rw [← h1]
    exact ha
  · rw [← h1, ← h2]
    exact lossOf_lane _ _ q

end Cert.KernelIdeal.Block

end
-- ==== Proof.KernelValue.lean ====
/-
  What the kernel computes, in the extended reals: the mean over the rows of each row's loss, its targets taken in some
  descending order (`kernel_value`). A block holds 128 rows of the arguments as its columns (`block_loss`).
-/
module

public import proofs.«01_k».proof.Proof.Block
public import proofs.«01_k».proof.Proof.Column
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Whole

open Idealize.ShloMosaic Idealize.SL.Sem
open Cert.KernelIdeal Cert.KernelIdeal.Gen Cert.ListMLE

variable (m : (ℓ : Loc nD τ sig) → Buf (Elt Ideal) ℓ) (c : Dev nD)

/-- The kernel's targets. -/
abbrev targets : FVec Ideal S4096x1024 .f32 := m ((c.tc : Thread nD τ).loc main_arg1)

/-- The kernel's predictions. -/
abbrev preds : FVec Ideal S4096x1024 .f32 := m ((c.tc : Thread nD τ).loc main_arg0)

/-- Grid point `t` takes block `t` along the rows of the arguments. -/
theorem idx : ∀ t : Fin cfg0.N, win0_0.index t = ![0, t.val] ∧ win0_1.index t = ![0, t.val] ∧ win0_2.index t = ![0, t.val] :=
  (by decide +kernel : ∀ t : Fin grid0.N, _)

/-- The row of the arguments that lane `q` of block `t` is. -/
def row (t : Fin cfg0.N) (q : Fin 128) : Fin 4096 :=
  ⟨128 * t.val + q.val, by
    have h : t.val < 32 := t.isLt
    omega⟩

/-- The launch's first operand is the targets transposed. -/
theorem entry_targets : V m c main_v1 = transpose S1024x4096 [1, 0] (targets m c) transposes_S4096x1024_S1024x4096_1_0 := by
  show StableHlo.after hostOps0 _ _ = _
  after_results

/-- The launch's second operand is the predictions transposed. -/
theorem entry_preds : V m c main_v0 = transpose S1024x4096 [1, 0] (preds m c) transposes_S4096x1024_S1024x4096_1_0 := by
  show StableHlo.after hostOps0 _ _ = _
  after_results

/-- Where an element of the first operand's block lies. -/
theorem emb_targets (t : Fin cfg0.N) (i : Fin 1024) (q : Fin 128) : (win0_0.blk t).view.emb (ix2 i q) = ix2 i (row t q) := by
  have h := (idx t).1
  funext a
  refine Fin.ext ?_
  blk_simp [h]
  match a with
  | ⟨0, _⟩ => exact (congrArg (· + i.val) (Nat.zero_mul _)).trans (Nat.zero_add _)
  | ⟨1, _⟩ => exact congrArg (· + q.val) (Nat.mul_comm t.val 128)

/-- Where an element of the second operand's block lies. -/
theorem emb_preds (t : Fin cfg0.N) (i : Fin 1024) (q : Fin 128) : (win0_1.blk t).view.emb (ix2 i q) = ix2 i (row t q) := by
  have h := (idx t).2.1
  funext a
  refine Fin.ext ?_
  blk_simp [h]
  match a with
  | ⟨0, _⟩ => exact (congrArg (· + i.val) (Nat.zero_mul _)).trans (Nat.zero_add _)
  | ⟨1, _⟩ => exact congrArg (· + q.val) (Nat.mul_comm t.val 128)

/-- Where an element of the result's block lies. -/
theorem emb_result (t : Fin cfg0.N) (q : Fin 128) : (win0_2.blk t).view.emb (ix2 (0 : Fin 1) q) = ix2 (0 : Fin 1) (row t q) := by
  have h := (idx t).2.2
  funext a
  refine Fin.ext ?_
  blk_simp [h]
  match a with
  | ⟨0, _⟩ => exact (congrArg (· + 0) (Nat.zero_mul _)).trans (Nat.zero_add _)
  | ⟨1, _⟩ => exact congrArg (· + q.val) (Nat.mul_comm t.val 128)

/-- Block `t` of the targets. -/
theorem targets_block (t : Fin cfg0.N) (i : Fin 1024) (q : Fin 128) :
    iblk m c 0 t (ix2 i q) = targets m c (ix2 (row t q) i) := by
  show V m c main_v1 ((win0_0.blk t).view.emb (ix2 i q)) = _
  rw [entry_targets, emb_targets]
  pointwise

/-- Block `t` of the predictions. -/
theorem preds_block (t : Fin cfg0.N) (i : Fin 1024) (q : Fin 128) :
    iblk m c 1 t (ix2 i q) = preds m c (ix2 (row t q) i) := by
  show V m c main_v0 ((win0_1.blk t).view.emb (ix2 i q)) = _
  rw [entry_preds, emb_preds]
  pointwise

/-- The rows' losses as the kernel's result array holds them, the rows' items in the orders `σ`. -/
def lossRow (y p : FVec Ideal S4096x1024 .f32) (σ : Fin 4096 → Equiv.Perm (Fin 1024)) : FVec Ideal S1x4096 .f32 := fun j =>
  rowLoss ((fun i : Fin 1024 => y (ix2 (j 1 : Fin 4096) i)) ∘ σ (j 1)) ((fun i : Fin 1024 => p (ix2 (j 1 : Fin 4096) i)) ∘ σ (j 1))

/-- What a block stores of a lane is the loss of the lane's row in some descending order. -/
theorem block_loss (t : Fin cfg0.N) (q : Fin 128) : ∃ σ : Equiv.Perm (Fin 1024),
    Antitone ((fun i : Fin 1024 => (targets m c (ix2 (row t q) i) : EReal)) ∘ σ)
      ∧ Block.blockLoss (F := Ideal) (iblk m c 0 t) (iblk m c 1 t) (ix2 0 q)
        = rowLoss ((fun i : Fin 1024 => targets m c (ix2 (row t q) i)) ∘ σ)
          ((fun i : Fin 1024 => preds m c (ix2 (row t q) i)) ∘ σ) := by
  have h := Block.blockLoss_lane (iblk m c 0 t) (iblk m c 1 t) q
  rw [show (fun i : Fin 1024 => (iblk m c 0 t (ix2 i q) : EReal)) = fun i : Fin 1024 => targets m c (ix2 (row t q) i) from
      funext fun i => targets_block m c t i q,
    show (fun i : Fin 1024 => (iblk m c 1 t (ix2 i q) : EReal)) = fun i : Fin 1024 => preds m c (ix2 (row t q) i) from
      funext fun i => preds_block m c t i q] at h
  exact h

/-- What a block stores, where it lies in the result. -/
theorem point_value (l : FVec Ideal S1x4096 .f32) (t : Fin cfg0.N) (y : S1x128.Idx)
    (h : ∀ q : Fin 128, Block.blockLoss (F := Ideal) (iblk m c 0 t) (iblk m c 1 t) (ix2 0 q) = l (ix2 0 (row t q))) :
    outsAt0 m c t y = l ((win0_2.blk t).view.emb y) := by
  obtain ⟨q, rfl⟩ : ∃ q : Fin 128, y = ix2 (0 : Fin 1) q := ⟨y 1, funext fun a => by
    match a with
    | ⟨0, _⟩ => exact Subsingleton.elim (α := Fin 1) _ _
    | ⟨1, _⟩ => rfl⟩
  rw [emb_result]
  unfold outsAt0
  rw [Block.out_eq]
  exact h q

/-- The result array of the launch, in some descending orders of the rows. -/
theorem arr_value : ∃ σ : Fin 4096 → Equiv.Perm (Fin 1024),
    (∀ r, Antitone ((fun i : Fin 1024 => (targets m c (ix2 r i) : EReal)) ∘ σ r))
      ∧ (dats m 0 c).arrAt 2 cfg0.N = lossRow (targets m c) (preds m c) σ := by
  have hr : ∀ r : Fin 4096, ∃ (t : Fin cfg0.N) (q : Fin 128), row t q = r := fun r =>
    ⟨⟨r.val / 128, by show r.val / 128 < 32; omega⟩, ⟨r.val % 128, by omega⟩, Fin.ext (by
      show 128 * (r.val / 128) + r.val % 128 = r.val
      omega)⟩
  have hi : ∀ (t t' : Fin cfg0.N) (q q' : Fin 128), row t q = row t' q' → t = t' ∧ q = q' := fun t t' q q' h => by
    have h' : 128 * t.val + q.val = 128 * t'.val + q'.val := congrArg Fin.val h
    have hq := q.isLt
    have hq' := q'.isLt
    exact ⟨Fin.ext (by omega), Fin.ext (by omega)⟩
  have hex : ∀ r : Fin 4096, ∃ σ : Equiv.Perm (Fin 1024),
      Antitone ((fun i : Fin 1024 => (targets m c (ix2 r i) : EReal)) ∘ σ)
        ∧ ∀ (t : Fin cfg0.N) (q : Fin 128), row t q = r →
          Block.blockLoss (F := Ideal) (iblk m c 0 t) (iblk m c 1 t) (ix2 0 q)
            = rowLoss ((fun i : Fin 1024 => targets m c (ix2 r i)) ∘ σ) ((fun i : Fin 1024 => preds m c (ix2 r i)) ∘ σ) := by
    intro r
    obtain ⟨t, q, rfl⟩ := hr r
    obtain ⟨σ, hσ, h⟩ := block_loss m c t q
    refine ⟨σ, hσ, fun t' q' h' => ?_⟩
    obtain ⟨rfl, rfl⟩ := hi _ _ _ _ h'
    exact h
  choose σ hσ h using hex
  refine ⟨σ, hσ, ?_⟩
  refine (dats m 0 c).arrAt_eq_of_covers 2 (lossRow (targets m c) (preds m c) σ) (by decide +kernel) fun t _ y => ?_
  blk_simp
  rw [after0_2]
  exact point_value m c (lossRow (targets m c) (preds m c) σ) t y fun q => h (row t q) t q rfl

/-- The mean of the rows' losses, as the last host operations take it. -/
def meanOf (l : FVec Ideal S1x4096 .f32) : FVec Ideal S_ .f32 :=
  Host.divf (Host.reduceAdd l (constant S_ .f32 0x00000000#32) reducesTo_S1x4096_S_d0_1 h_S_) (constant S_ .f32 0x45800000#32)

/-- It is the sum divided by the number of rows. -/
theorem meanOf_apply (l : FVec Ideal S1x4096 .f32) (j : S_.Idx) :
    meanOf l j = Ideal.div (∑ r : Fin 4096, (l (ix2 0 r) : EReal)) (Ideal.ofBits .f32 0x45800000#32) := by
  unfold meanOf
  pointwise
  rw [Fin.sum_univ_one]

/-- The kernel's value: the mean over the rows of the loss of each row's targets, put in some descending order. -/
theorem kernel_value : ∃ σ : Fin 4096 → Equiv.Perm (Fin 1024),
    (∀ r, Antitone ((fun i : Fin 1024 => (targets m c (ix2 r i) : EReal)) ∘ σ r))
      ∧ meanOf ((dats m 0 c).arrAt 2 cfg0.N) = fun _ => Ideal.div (∑ r : Fin 4096,
          rowLoss ((fun i : Fin 1024 => targets m c (ix2 r i)) ∘ σ r) ((fun i : Fin 1024 => preds m c (ix2 r i)) ∘ σ r))
          (Ideal.ofBits .f32 0x45800000#32) := by
  obtain ⟨σ, hσ, h⟩ := arr_value m c
  refine ⟨σ, hσ, funext fun j => ?_⟩
  rw [h, meanOf_apply]
  rfl

/-- Every run of the kernel ends with the mean of the launch's result array, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = meanOf ((dats m 0 c).arrAt 2 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from Cert.KernelIdeal.Gen.run_main m ρ
  · unfold Pipeline.afterTail₀
    show StableHlo.after hostOps1 _ _ = _
    after_results
    exact congrArg meanOf (Pipeline.withArrays_arr (cfgs 0).spec (by decide) c (V0 m c)
      (fun w => (dats m 0 c).arrAt w (cfgs 0).N) 2)
  · exact W_main_arg0 m (dats m) c
  · exact W_main_arg1 m (dats m) c

end Cert.KernelIdeal.Whole

end
-- ==== Proof.Shuffle.lean ====
/-
  The reference's fixed shuffle: its 1024 column numbers are a permutation (`shuffle`), and gathering by them permutes every
  row (`gather_row`).
-/
module

public import proofs.«01_k».proof.Proof.Gen.ReferenceIdeal
public import Idealize.ShloMosaic.Lib.Pointwise
public import Idealize.ShloMosaic.Lib.Pipeline.Value

@[expose] public section

noncomputable section

namespace Cert.ReferenceIdeal.Rows

open Idealize.ShloMosaic Cert.ReferenceIdeal Cert.ReferenceIdeal.Gen

/-- The numbers `v i` of a list of positions, as the bits of one number. -/
def marks {ι : Type} (v : ι → Nat) (l : List ι) : Nat := l.foldl (fun a i => a ||| 2 ^ v i) 0

/-- A bit is set where a number marks it. -/
theorem exists_of_marks {ι : Type} (v : ι → Nat) (k : Nat) (l : List ι) (a : Nat)
    (h : (l.foldl (fun a i => a ||| 2 ^ v i) a).testBit k = true) : a.testBit k = true ∨ ∃ i, v i = k := by
  induction l generalizing a with
  | nil => exact Or.inl h
  | cons i l ih =>
    rcases ih _ h with h | h
    · rw [Nat.testBit_or, Bool.or_eq_true, Nat.testBit_two_pow, decide_eq_true_eq] at h
      exact h.imp_right fun e => ⟨i, e⟩
    · exact Or.inr h

set_option maxRecDepth 8192 in
/-- Every column number is below 1024. -/
theorem lit0_lt : ∀ i : Fin 1024, (lit0 i).toNat < 1024 := by decide +kernel

set_option maxRecDepth 8192 in
/-- The column numbers mark all of 0 … 1023. -/
theorem lit0_marks : marks (fun i => (lit0 i).toNat) (List.finRange 1024) = 2 ^ 1024 - 1 := by decide +kernel

/-- The column numbers as a permutation. -/
def shuffle : Equiv.Perm (Fin 1024) :=
  Equiv.ofBijective (fun i => ⟨(lit0 i).toNat, lit0_lt i⟩) (by
    refine Finite.surjective_iff_bijective.mp fun k => ?_
    have h : (marks (fun i => (lit0 i).toNat) (List.finRange 1024)).testBit k.val = true := by
      rw [lit0_marks, Nat.testBit_two_pow_sub_one]
      exact decide_eq_true k.isLt
    rcases exists_of_marks _ _ _ _ h with h | ⟨i, hi⟩
    · simp at h
    · exact ⟨i, Fin.ext hi⟩)

section
variable {F : FTy → Type} [FloatOps F]

/-- The column numbers as the gather takes them: a negative one would count from the end. -/
def columns : IVec S1024x1 32 :=
  broadcastInDim S1024x1 ![0] bcast_S1024_S1024x1_0
    (select (cmpi .slt ((fun i => lit0 (S1024.rowMajor i))) (broadcastInDim S1024 ![] bcast_S_S1024 (constantI S_ 32 0#32)))
      (addi ((fun i => lit0 (S1024.rowMajor i))) (broadcastInDim S1024 ![] bcast_S_S1024 (constantI S_ 32 1024#32)))
      ((fun i => lit0 (S1024.rowMajor i))))

end

/-- A small word is not negative. -/
theorem select_small (w : BitVec 32) (h : w.toNat < 1024) :
    Scalar.select (IntOp.cmpi .slt w 0#32) (IntOp.addi w 1024#32) w = w := by
  have : w.slt 0#32 = false := by
    rw [BitVec.slt_zero_eq_msb, BitVec.msb_eq_false_iff_two_mul_lt]
    omega
  show (if BitVec.ofBool (w.slt 0#32) = 1#1 then _ else _) = _
  rw [this, if_neg (by decide)]

/-- Column `i`'s number. -/
theorem columns_apply (i : Fin 1024) : columns (ix2 i 0) = lit0 i := by
  have hi : S1024.rowMajor (ix1 i) = i := Fin.ext (by
    rw [Shape.rowMajor_val_one]
    rfl)
  have h : columns (ix2 i 0) = Scalar.select (IntOp.cmpi .slt (lit0 (S1024.rowMajor (ix1 i))) 0#32)
      (IntOp.addi (lit0 (S1024.rowMajor (ix1 i))) 1024#32) (lit0 (S1024.rowMajor (ix1 i))) := by
    unfold columns
    generalize lit0 = f
    pointwise
  rw [h, hi]
  exact select_small _ (lit0_lt i)

/-- A gather by the column numbers permutes each row. -/
theorem gather_row (x : FVec Ideal S4096x1024 .f32) (r : Fin 4096) (i : Fin 1024) :
    Host.gather gather_S4096x1024_S1024x1_S4096x1024_0_1_n_n_1_1_40961 x columns (ix2 r i) = x (ix2 r (shuffle i)) := by
  have hc := columns_apply i
  have hl := lit0_lt i
  have hs : (shuffle i).val = (lit0 i).toNat := rfl
  generalize columns = idx at hc ⊢
  generalize shuffle i = k at hs ⊢
  generalize lit0 i = w at hc hl hs
  unfold Host.gather
  refine congrArg x (funext fun a => Fin.ext ?_)
  match a with
  | ⟨0, _⟩ =>
    show GatherDims.start _ (ix2 r i) idx 0 + GatherDims.batchCoord _ (ix2 r i) 0 + GatherDims.offCoord _ (ix2 r i) 0 = r.val
    rw [GatherDims.batchCoord_eq_zero _ _ _ (List.not_mem_nil)]
    have h0 : GatherDims.start gather_S4096x1024_S1024x1_S4096x1024_0_1_n_n_1_1_40961 (ix2 r i) idx 0 = 0 :=
      dif_neg (by decide)
    rw [h0, Nat.zero_add]
    exact dif_pos (by decide)
  | ⟨1, _⟩ =>
    show GatherDims.start _ (ix2 r i) idx 1 + GatherDims.batchCoord _ (ix2 r i) 1 + GatherDims.offCoord _ (ix2 r i) 1 = k.val
    rw [GatherDims.batchCoord_eq_zero _ _ _ (List.not_mem_nil), GatherDims.offCoord_eq_zero _ _ _ (by decide),
      Nat.add_zero]
    have hm : (1 : Fin 2) ∈ gather_S4096x1024_S1024x1_S4096x1024_0_1_n_n_1_1_40961.startIndexMap := List.mem_singleton.2 rfl
    unfold GatherDims.start
    rw [dif_pos hm]
    have hsi : gather_S4096x1024_S1024x1_S4096x1024_0_1_n_n_1_1_40961.siIdx (ix2 r i)
        ⟨List.idxOf (1 : Fin 2) gather_S4096x1024_S1024x1_S4096x1024_0_1_n_n_1_1_40961.startIndexMap,
          List.idxOf_lt_length_iff.2 hm⟩ = ix2 i (0 : Fin 1) := by
      funext b
      match b with
      | ⟨0, _⟩ => rfl
      | ⟨1, _⟩ => rfl
    rw [hsi, hc, hs, BitVec.toInt_eq_toNat_of_lt (by omega)]
    show min ((w.toNat : Int)).toNat 1023 = w.toNat
    omega

end Cert.ReferenceIdeal.Rows

end
-- ==== Proof.Window.lean ====
/-
  A window as wide as the row, padded low: the running sum along a row (`window_row`), and between two reversals the sum from
  each item on (`window_rev`).
-/
module

public import Idealize.ShloMosaic.Lib.Pointwise
public import Idealize.ShloMosaic.Lib.Pipeline.Value

@[expose] public section

noncomputable section

namespace Cert.ListMLE

open Idealize.ShloMosaic

/-- Folding `+` over a list adds its sum. -/
theorem foldl_add_eq {ι : Type} (g : ι → EReal) (l : List ι) (a : EReal) :
    l.foldl (fun r n => r + g n) a = a + (l.map g).sum := by
  induction l generalizing a with
  | nil => simp
  | cons i l ih => rw [List.foldl_cons, ih, List.map_cons, List.sum_cons, add_assoc]

/-- A fold of `+` over the positions of a shape, in row-major order, is a sum over its indices. -/
theorem foldl_positions (s : Shape) (g : s.Idx → EReal) (G : Fin s.numel → EReal) (hG : ∀ n, G n = g (s.rowMajor.symm n))
    (a : EReal) : (List.finRange s.numel).foldl (fun r n => r + G n) a = a + ∑ i : s.Idx, g i := by
  rw [foldl_add_eq, ← Equiv.sum_comp s.rowMajor.symm]
  refine congrArg (a + ·) ?_
  rw [← List.ofFn_eq_map, List.sum_ofFn]
  exact Finset.sum_congr rfl fun n _ => hG n

/-- Where position `i + d` of a padded row lands in the row. -/
theorem sum_window {n m : Nat} (hn : m + 1 = n) (f : Fin n → EReal) (i : Fin n) :
    (∑ d : Fin n, if h : m ≤ i.val + d.val ∧ i.val + d.val - m < n then f ⟨i.val + d.val - m, h.2⟩ else 0)
      = ∑ j : Fin n, if j ≤ i then f j else 0 := by
  have hi := i.isLt
  have e1 : (∑ d : Fin n, if h : m ≤ i.val + d.val ∧ i.val + d.val - m < n then f ⟨i.val + d.val - m, h.2⟩ else 0)
      = ∑ d ∈ Finset.range n, if m ≤ i.val + d then (fun k : Nat => if h : k < n then f ⟨k, h⟩ else 0) (i.val + d - m) else 0 := by
    rw [← Fin.sum_univ_eq_sum_range (fun d : Nat => if m ≤ i.val + d then
      (fun k : Nat => if h : k < n then f ⟨k, h⟩ else 0) (i.val + d - m) else 0) n]
    refine Finset.sum_congr rfl fun d _ => ?_
    have hd := d.isLt
    by_cases hm : m ≤ i.val + d.val
    · rw [dif_pos ⟨hm, by omega⟩, if_pos hm]
      dsimp only
      rw [dif_pos]
    · rw [dif_neg fun h => hm h.1, if_neg hm]
  have e2 : (∑ j : Fin n, if j ≤ i then f j else 0)
      = ∑ j ∈ Finset.range n, if j ≤ i.val then (fun k : Nat => if h : k < n then f ⟨k, h⟩ else 0) j else 0 := by
    rw [← Fin.sum_univ_eq_sum_range (fun j : Nat => if j ≤ i.val then (fun k : Nat => if h : k < n then f ⟨k, h⟩ else 0) j else 0) n]
    refine Finset.sum_congr rfl fun j _ => ?_
    by_cases hj : j ≤ i
    · rw [if_pos hj, if_pos (show j.val ≤ i.val from hj)]
      dsimp only
      rw [dif_pos j.isLt]
    · rw [if_neg hj, if_neg (show ¬ j.val ≤ i.val from hj)]
  rw [e1, e2, ← Finset.sum_filter, ← Finset.sum_filter]
  refine Finset.sum_nbij' (fun d => i.val + d - m) (fun j => j + m - i.val) ?_ ?_ ?_ ?_ (fun _ _ => rfl) <;>
    · intro d hd
      simp only [Finset.mem_filter, Finset.mem_range] at hd ⊢
      omega

/-- A window one row high and as wide as the row, padded low by one less than the width: each item's entry is the sum of the
    items up to it. -/
theorem window_row {n0 n m : Nat} (hn : m + 1 = n) (x : FVec Ideal ⟨2, ![n0, n]⟩ .f32) (init : FVec Ideal ⟨0, ![]⟩ .f32)
    (hinit : ∀ i, init i = (0 : EReal))
    (h : Shape.ReduceWindows ⟨2, ![n0, n]⟩ ![1, n] ![1, 1] ![0, m] ![0, 0] ⟨2, ![n0, n]⟩) (hu : 0 < Shape.numel ⟨0, ![]⟩)
    (r : Fin n0) (i : Fin n) :
    (Host.reduceWindowAdd ![1, n] ![1, 1] ![0, m] ![0, 0] x init h hu (ix2 r i) : EReal)
      = ∑ j : Fin n, if j ≤ i then (x (ix2 r j) : EReal) else 0 := by
  rw [← sum_window hn (fun j => (x (ix2 r j) : EReal)) i]
  have hi : init (Shape.Idx.first hu) = (0 : EReal) := hinit _
  unfold Host.reduceWindowAdd
  rw [hi]
  show Host.reduceWindow (· + ·) ![1, n] ![1, 1] ![0, m] ![0, 0] x (fun _ : (⟨0, ![]⟩ : Shape).Idx => (0 : EReal)) h (by decide) (ix2 r i) = _
  unfold Host.reduceWindow
  dsimp only
  refine (foldl_positions ⟨2, ![1, n]⟩ (fun w => if hin : m ≤ i.val + (w 1).val ∧ i.val + (w 1).val - m < n then
    (x (ix2 r ⟨i.val + (w 1).val - m, hin.2⟩) : EReal) else 0) _ (fun k => ?_) 0).trans ?_
  · let w : Shape.Idx ⟨2, ![1, n]⟩ := (Shape.rowMajor ⟨2, ![1, n]⟩).symm k
    change _ = dite (m ≤ i.val + (w 1).val ∧ i.val + (w 1).val - m < n) _ _
    have hw : (w 0).val = 0 := Nat.lt_one_iff.1 (w 0).isLt
    by_cases hd : m ≤ i.val + (w 1).val ∧ i.val + (w 1).val - m < n
    · rw [dif_pos hd, dif_pos]
      · refine congrArg x (funext fun a => Fin.ext ?_)
        match a with
        | ⟨0, _⟩ => show r.val * 1 + (w 0).val - 0 = r.val; omega
        | ⟨1, _⟩ => show i.val * 1 + (w 1).val - m = i.val + (w 1).val - m; omega
      · intro a
        have hr := r.isLt
        match a with
        | ⟨0, _⟩ => show 0 ≤ r.val * 1 + (w 0).val ∧ r.val * 1 + (w 0).val - 0 < n0; omega
        | ⟨1, _⟩ => show m ≤ i.val * 1 + (w 1).val ∧ i.val * 1 + (w 1).val - m < n; omega
    · rw [dif_neg hd, dif_neg]
      intro hin
      have h1 := hin 1
      change m ≤ i.val * 1 + (w 1).val ∧ i.val * 1 + (w 1).val - m < n at h1
      omega
  · rw [zero_add, sum_idx2, Fin.sum_univ_one]
    rfl

/-- Reversing, running sum, reversing back: each item's entry is the sum of the items from it on. -/
theorem window_rev {n0 n m : Nat} (hn : m + 1 = n) (x : FVec Ideal ⟨2, ![n0, n]⟩ .f32) (init : FVec Ideal ⟨0, ![]⟩ .f32)
    (hinit : ∀ i, init i = (0 : EReal))
    (h : Shape.ReduceWindows ⟨2, ![n0, n]⟩ ![1, n] ![1, 1] ![0, m] ![0, 0] ⟨2, ![n0, n]⟩) (hu : 0 < Shape.numel ⟨0, ![]⟩)
    (r : Fin n0) (i : Fin n) :
    (Host.reverse [1] (Host.reduceWindowAdd ![1, n] ![1, 1] ![0, m] ![0, 0] (Host.reverse [1] x) init h hu) (ix2 r i) : EReal)
      = ∑ j : Fin n, if i ≤ j then (x (ix2 r j) : EReal) else 0 := by
  have hr : ∀ (z : FVec Ideal ⟨2, ![n0, n]⟩ .f32) (j : Fin n), Host.reverse [1] z (ix2 r j) = z (ix2 r j.rev) := fun z j => by
    rw [Host.reverse_apply]
    refine congrArg z (funext fun a => ?_)
    rw [Shape.Idx.norm_def]
    match a with
    | ⟨0, _⟩ => rfl
    | ⟨1, _⟩ => rfl
  rw [hr, window_row hn _ init hinit]
  rw [← Equiv.sum_comp Fin.revPerm]
  refine Finset.sum_congr rfl fun j _ => ?_
  simp only [hr, Fin.revPerm_apply, Fin.rev_rev, Fin.rev_le_rev]

end Cert.ListMLE

end
-- ==== Proof.Order.lean ====
/-
  The host's stable sort by an ascending key, in the extended reals: the positions it takes are a permutation
  (`sortPerm`) along which the key ascends (`key_sortPerm`).
-/
module

public import Idealize.ShloMosaic.Lib.Pointwise
public import Idealize.ShloMosaic.Lib.SortFacts

@[expose] public section

noncomputable section

namespace Cert.ListMLE

open Idealize.ShloMosaic

/-- "Position `a`'s key is below position `b`'s", as a sort asks it. -/
def before {n : Nat} (key : Fin n → EReal) (a b : Fin n) : Bool := BitVec.ofBool (decide (key a < key b)) == 1#1

/-- `before` is the strict order of the keys. -/
theorem before_iff {n : Nat} (key : Fin n → EReal) (a b : Fin n) : before key a b = true ↔ key a < key b := by
  unfold before
  by_cases h : key a < key b
  · simp [h]
  · simp [h]

/-- The permutation a sort by `key` takes. -/
def sortPerm {n : Nat} (key : Fin n → EReal) : Equiv.Perm (Fin n) :=
  Equiv.ofBijective (sortedFrom (before key)) ⟨sortedFrom_injective _, sortedFrom_surjective _⟩

/-- The keys ascend along it. -/
theorem key_sortPerm {n : Nat} (key : Fin n → EReal) : Monotone (key ∘ sortPerm key) := by
  intro i j hij
  rcases hij.eq_or_lt with rfl | h
  · exact le_rfl
  · have hn := sortedFrom_noInversion (before key) (before key)
      (fun a b h => by
        rw [Bool.eq_false_iff, Ne, before_iff, not_lt]
        exact ((before_iff key a b).mp h).le)
      (fun _ _ h => h)
      (fun a b c hab hbc => by
        rw [Bool.eq_false_iff, Ne, before_iff, not_lt] at hab hbc ⊢
        exact hbc.trans hab) i j h
    rw [Bool.eq_false_iff, Ne, before_iff, not_lt] at hn
    exact hn

/-- The comparison a printed sort makes, which takes both zeros and every undefined value together first, is the order of
    the extended reals: they have one zero and no undefined value. -/
theorem canonical (x : EReal) :
    Scalar.select (Ideal.cmp .une x x) (Ideal.ofBits .f32 0x7FC00000#32)
      (Scalar.select (Ideal.cmp .oeq x (Ideal.ofBits .f32 0x00000000#32)) (Ideal.ofBits .f32 0x00000000#32) x) = x := by
  rw [Ideal.ofBits_zero_f32]
  unfold Ideal.cmp Scalar.select
  by_cases h : x = 0
  · simp [h]
  · simp [h]

/-- A matrix's position with its column replaced. -/
theorem along_ix2 {n0 n1 : Nat} (r : Fin n0) (i k : Fin n1) :
    Shape.Idx.along (s := ⟨2, ![n0, n1]⟩) (ix2 r i) 1 k = ix2 r k := by
  funext a
  match a with
  | ⟨0, _⟩ => rfl
  | ⟨1, _⟩ => rfl

/-- A sort of a matrix's rows, at an element. -/
theorem sort_apply {n0 n1 : Nat} {α : Type} (cmp : α → α → BitVec 1) (x : (⟨2, ![n0, n1]⟩ : Shape).Idx → α) (r : Fin n0)
    (i : Fin n1) : Host.sort ⟨2, ![n0, n1]⟩ 1 cmp x (ix2 r i)
      = x (ix2 r (sortedFrom (fun k k' => cmp (x (ix2 r k)) (x (ix2 r k')) == 1#1) i)) := by
  have hb : (fun k k' : Fin n1 => cmp (x (Shape.Idx.along (s := ⟨2, ![n0, n1]⟩) (ix2 r i) 1 k))
      (x (Shape.Idx.along (s := ⟨2, ![n0, n1]⟩) (ix2 r i) 1 k')) == 1#1)
        = fun k k' => cmp (x (ix2 r k)) (x (ix2 r k')) == 1#1 := by
    funext k k'
    rw [along_ix2, along_ix2]
  unfold Host.sort
  rw [dif_pos (show 1 < (⟨2, ![n0, n1]⟩ : Shape).rank from Nat.one_lt_two)]
  exact (congrArg x (along_ix2 r i _)).trans (congrArg (fun f => x (ix2 r (sortedFrom f i))) hb)

/-- A sort of a matrix's rows in ascending order, at an element. -/
theorem sort_lt_apply {n0 n1 : Nat} (cmp : EReal → EReal → BitVec 1) (hc : ∀ a b, cmp a b = BitVec.ofBool (decide (a < b)))
    (x : (⟨2, ![n0, n1]⟩ : Shape).Idx → EReal) (r : Fin n0) (i : Fin n1) :
    Host.sort ⟨2, ![n0, n1]⟩ 1 cmp x (ix2 r i) = x (ix2 r (sortPerm (fun k => x (ix2 r k)) i)) := by
  rw [sort_apply]
  simp only [hc]
  rfl

/-- A sort of three matrices' rows together, at an element of the second and of the third. -/
theorem sort3_apply {n0 n1 : Nat} {α β γ : Type} (cmp : α × β × γ → α × β × γ → BitVec 1)
    (x : (⟨2, ![n0, n1]⟩ : Shape).Idx → α) (y : (⟨2, ![n0, n1]⟩ : Shape).Idx → β) (z : (⟨2, ![n0, n1]⟩ : Shape).Idx → γ)
    (r : Fin n0) (f : Fin n1 → Fin n1 → Bool)
    (hf : ∀ k k', (cmp (x (ix2 r k), y (ix2 r k), z (ix2 r k)) (x (ix2 r k'), y (ix2 r k'), z (ix2 r k')) == 1#1) = f k k')
    (i : Fin n1) :
    (Host.sort3 ⟨2, ![n0, n1]⟩ 1 cmp x y z).2.1 (ix2 r i) = y (ix2 r (sortedFrom f i))
      ∧ (Host.sort3 ⟨2, ![n0, n1]⟩ 1 cmp x y z).2.2 (ix2 r i) = z (ix2 r (sortedFrom f i)) := by
  have hb : (fun k k' : Fin n1 => cmp (x (Shape.Idx.along (s := ⟨2, ![n0, n1]⟩) (ix2 r i) 1 k),
        y (Shape.Idx.along (s := ⟨2, ![n0, n1]⟩) (ix2 r i) 1 k), z (Shape.Idx.along (s := ⟨2, ![n0, n1]⟩) (ix2 r i) 1 k))
      (x (Shape.Idx.along (s := ⟨2, ![n0, n1]⟩) (ix2 r i) 1 k'), y (Shape.Idx.along (s := ⟨2, ![n0, n1]⟩) (ix2 r i) 1 k'),
        z (Shape.Idx.along (s := ⟨2, ![n0, n1]⟩) (ix2 r i) 1 k')) == 1#1) = f := by
    funext k k'
    rw [along_ix2, along_ix2, hf]
  unfold Host.sort3
  rw [dif_pos (show 1 < (⟨2, ![n0, n1]⟩ : Shape).rank from Nat.one_lt_two)]
  exact ⟨(congrArg y (along_ix2 r i _)).trans (congrArg (fun f => y (ix2 r (sortedFrom f i))) hb),
    (congrArg z (along_ix2 r i _)).trans (congrArg (fun f => z (ix2 r (sortedFrom f i))) hb)⟩

/-- A sort of three matrices' rows together, in ascending order of the first. -/
theorem sort3_lt_apply {n0 n1 : Nat} (cmp : EReal × EReal × EReal → EReal × EReal × EReal → BitVec 1)
    (hc : ∀ a b, cmp a b = BitVec.ofBool (decide (a.1 < b.1))) (x y z : (⟨2, ![n0, n1]⟩ : Shape).Idx → EReal) (r : Fin n0)
    (i : Fin n1) :
    (Host.sort3 ⟨2, ![n0, n1]⟩ 1 cmp x y z).2.1 (ix2 r i) = y (ix2 r (sortPerm (fun k => x (ix2 r k)) i))
      ∧ (Host.sort3 ⟨2, ![n0, n1]⟩ 1 cmp x y z).2.2 (ix2 r i) = z (ix2 r (sortPerm (fun k => x (ix2 r k)) i)) :=
  sort3_apply cmp x y z r (before fun k => x (ix2 r k)) (fun k k' => by rw [hc]; rfl) i

end Cert.ListMLE

end
-- ==== Proof.Reference.lean ====
/-
  What the reference computes, in the extended reals: the mean over the rows of each row's loss, its targets taken in some
  descending order (`reference_value`).
-/
module

public import proofs.«01_k».proof.Proof.Gen.ReferenceIdeal.Run
public import proofs.«01_k».proof.Proof.Shuffle
public import proofs.«01_k».proof.Proof.Window
public import proofs.«01_k».proof.Proof.Order
public import proofs.«01_k».proof.Proof.Loss

@[expose] public section

set_option maxRecDepth 16384

noncomputable section

namespace Cert.ReferenceIdeal.Rows

open Idealize.ShloMosaic Idealize.SL.Sem Cert.ReferenceIdeal Cert.ReferenceIdeal.Gen Cert.ListMLE

/-- A matrix of rows. -/
abbrev Mat := FVec Ideal S4096x1024 .f32

/-- Where a target is padding. -/
def mask (ys : Mat) : IVec S4096x1024 1 :=
  cmpf .oeq ys (broadcastInDim S4096x1024 ![] bcast_S_S4096x1024 (constant S_ .f32 0xBF800000#32))

/-- The predictions, least where the target is padding. -/
def masked (ys ps : Mat) : Mat :=
  select (mask ys) (broadcastInDim S4096x1024 ![] bcast_S_S4096x1024 (id (constant S_ .f32 0xFF800000#32))) ps

/-- The masked predictions less their row's greatest. -/
def shift (ys ps : Mat) : Mat :=
  subf (masked ys ps) (broadcastInDim S4096x1024 ![0, 1] bcast_S4096x1_S4096x1024_0_1 (broadcastInDim S4096x1 ![0]
    bcast_S4096_S4096x1_0 (Host.reduce FloatOps.maximumf (masked ys ps) (constant S_ .f32 0xFF800000#32)
      reducesTo_S4096x1024_S4096_d1 h_S_)))

/-- The sums of exponentials from each item on. -/
def tails (z : Mat) : Mat :=
  Host.reverse [1] (Host.reduceWindowAdd ![1, 1024] ![1, 1] ![0, 1023] ![0, 0] (Host.reverse [1] (Host.exp z))
    (broadcastInDim S_ ![] bcast_S_S_ (constant S_ .f32 0x00000000#32))
    reduceWindows_S4096x1024_S4096x1024_w1s1p0_0_w1024s1p1023_0 h_S_)

/-- The weights of the positions. -/
def weights : Mat :=
  broadcastInDim S4096x1024 ![0, 1] bcast_S1x1024_S4096x1024_0_1 (broadcastInDim S1x1024 ![1] bcast_S1024_S1x1024_1
    (Host.log (addf (sitofp .f32 (iotaInDim S1024 32 0)) (broadcastInDim S1024 ![] bcast_S_S1024
      (constant S_ .f32 0x40000000#32)))))

/-- The items' weighted losses. -/
def items (ys ps : Mat) : Mat :=
  Host.divf (select (mask ys) (broadcastInDim S4096x1024 ![] bcast_S_S4096x1024 (id (constant S_ .f32 0x00000000#32)))
    (subf (Host.log (addf (tails (shift ys ps)) (broadcastInDim S4096x1024 ![] bcast_S_S4096x1024
      (constant S_ .f32 0x2EDBE6FF#32)))) (shift ys ps))) weights

/-- The rows' losses. -/
def losses (ys ps : Mat) : FVec Ideal S4096 .f32 :=
  Host.reduceAdd (items ys ps) (constant S_ .f32 0x00000000#32) reducesTo_S4096x1024_S4096_d1 h_S_

/-- Their mean. -/
def mean (l : FVec Ideal S4096 .f32) : FVec Ideal S_ .f32 :=
  Host.divf (Host.reduceAdd l (constant S_ .f32 0x00000000#32) reducesTo_S4096_S_d0 h_S_) (constant S_ .f32 0x45800000#32)

/-- A choice by `mask`, at one item. -/
theorem select_mask (ys a b : Mat) (j : S4096x1024.Idx) : select (mask ys) a b j = if ys j = pad then a j else b j := by
  show (if BitVec.ofBool (decide (ys j = pad)) = 1#1 then a j else b j) = _
  by_cases h : ys j = pad
  · rw [if_pos h, decide_eq_true h, if_pos (by decide)]
  · rw [if_neg h, decide_eq_false h, if_neg (by decide)]

/-- A masked prediction. -/
theorem masked_apply (ys ps : Mat) (j : S4096x1024.Idx) : masked ys ps j = if ys j = pad then negInf else ps j := by
  unfold masked
  rw [select_mask]
  rfl

/-- The greatest of a row, over the row. -/
theorem max_row (z : Mat) (r : Fin 4096) (i : Fin 1024) :
    broadcastInDim S4096x1024 ![0, 1] bcast_S4096x1_S4096x1024_0_1 (broadcastInDim S4096x1 ![0]
      bcast_S4096_S4096x1_0 (Host.reduce FloatOps.maximumf z (constant S_ .f32 0xFF800000#32)
        reducesTo_S4096x1024_S4096_d1 h_S_)) (ix2 r i) = Finset.univ.fold max negInf fun k : Fin 1024 => z (ix2 r k) := by
  pointwise
  rfl

/-- The sum of a row. -/
theorem sum_row (z : Mat) (r : Fin 4096) :
    Host.reduceAdd z (constant (F := Ideal) S_ .f32 0x00000000#32) reducesTo_S4096x1024_S4096_d1 h_S_ (ix1 r)
      = ∑ k : Fin 1024, z (ix2 r k) := by
  pointwise

section
variable (ys ps : Mat) (r : Fin 4096)

/-- A shifted prediction. -/
theorem shift_apply (i : Fin 1024) : shift ys ps (ix2 r i)
    = (if ys (ix2 r i) = pad then negInf else ps (ix2 r i)) - top (fun i => ys (ix2 r i)) (fun i => ps (ix2 r i)) := by
  unfold shift
  refine (congrArg₂ (fun a b : EReal => a - b) (masked_apply ys ps (ix2 r i)) (max_row (masked ys ps) r i)).trans ?_
  simp only [masked_apply]
  rfl

/-- Its exponential. -/
theorem exp_shift (i : Fin 1024) : Host.exp (shift ys ps) (ix2 r i)
    = expo (fun i => ys (ix2 r i)) (fun i => ps (ix2 r i)) i := by
  refine (congrArg Ideal.exp (shift_apply ys ps r i)).trans ?_
  unfold expo
  by_cases h : ys (ix2 r i) = pad
  · rw [if_pos h, if_pos h, negInf_eq, EReal.bot_sub]
    rfl
  · rw [if_neg h, if_neg h]

/-- The sum of exponentials from an item on. -/
theorem tails_apply (i : Fin 1024) : tails (shift ys ps) (ix2 r i)
    = tail (fun i => ys (ix2 r i)) (fun i => ps (ix2 r i)) i := by
  unfold tails
  refine (window_rev (n0 := 4096) (n := 1024) (m := 1023) rfl (Host.exp (shift ys ps)) _ (fun _ => Ideal.ofBits_zero_f32) _ _ r i).trans ?_
  simp only [exp_shift]
  rfl

/-- A position's weight. -/
theorem weights_apply (i : Fin 1024) : weights (ix2 r i) = wt i := by
  unfold weights wt
  pointwise
  rfl

/-- An item's weighted loss. -/
theorem items_apply (i : Fin 1024) : items ys ps (ix2 r i) = obs (fun i => ys (ix2 r i)) (fun i => ps (ix2 r i)) i := by
  unfold items
  refine (congrArg₂ Ideal.div (select_mask ys _ _ (ix2 r i)) (weights_apply r i)).trans ?_
  unfold obs
  by_cases h : ys (ix2 r i) = pad
  · rw [if_pos h, if_pos h]
    refine (congrArg (Ideal.div · (wt i)) Ideal.ofBits_zero_f32).trans ?_
    show Ideal.div 0 (wt i) = 0
    unfold Ideal.div
    rw [if_neg (wt_ne_zero i), zero_mul]
  · rw [if_neg h, if_neg h]
    refine congrArg (Ideal.div · (wt i)) ?_
    have hs := shift_apply ys ps r i
    rw [if_neg h] at hs
    exact congrArg₂ (fun a b : EReal => a - b) (congrArg (fun a : EReal => Ideal.log (a + eps)) (tails_apply ys ps r i)) hs

/-- A row's loss. -/
theorem losses_apply : losses ys ps (ix1 r) = rowLoss (fun i => ys (ix2 r i)) (fun i => ps (ix2 r i)) := by
  unfold losses
  rw [sum_row]
  simp only [items_apply]
  rfl

end

/-- The mean of the rows' losses. -/
theorem mean_apply (l : FVec Ideal S4096 .f32) (j : S_.Idx) :
    mean l j = Ideal.div (∑ r : Fin 4096, (l (ix1 r) : EReal)) (Ideal.ofBits .f32 0x45800000#32) := by
  unfold mean
  pointwise

/-- The matrix shuffled. -/
def shuffled (x : Mat) : Mat := Host.gather gather_S4096x1024_S1024x1_S4096x1024_0_1_n_n_1_1_40961 x columns

/-- A row of it. -/
theorem shuffled_row (x : Mat) (r : Fin 4096) (i : Fin 1024) : shuffled x (ix2 r i) = x (ix2 r (shuffle i)) :=
  gather_row x r i

/-- Targets and predictions sorted together by the target negated. -/
def sorted3 (y p : Mat) : Mat × Mat × Mat :=
  Host.sort3 S4096x1024 1 comparator_f32_f32_f32_d1 (Host.negf (shuffled y)) (shuffled y) (shuffled p)

/-- The reference's result is the mean of the rows' losses, sorted. -/
theorem result_eq (m : (ℓ : Loc nD τ sig) → Buf (Elt Ideal) ℓ) (c : Dev nD) :
    Value.res_main_v41 m c = mean (losses
      (sorted3 (m ((c.tc : Thread nD τ).loc main_arg1)) (m ((c.tc : Thread nD τ).loc main_arg0))).2.1
      (sorted3 (m ((c.tc : Thread nD τ).loc main_arg1)) (m ((c.tc : Thread nD τ).loc main_arg0))).2.2) := rfl

/-- The sort compares the negated targets. -/
theorem comparator_eq (l r : EReal × EReal × EReal) :
    comparator_f32_f32_f32_d1 (F := Ideal) l r = BitVec.ofBool (decide (l.1 < r.1)) :=
  congrArg₂ (Ideal.cmp .olt) (canonical l.1) (canonical r.1)

/-- An item of the sorted matrices, by the permutation the sort takes. -/
theorem sort3_row (x u v : Mat) (r : Fin 4096) (i : Fin 1024) :
    (Host.sort3 S4096x1024 1 (comparator_f32_f32_f32_d1 (F := Ideal)) x u v).2.1 (ix2 r i)
        = u (ix2 r (sortPerm (fun k : Fin 1024 => (x (ix2 r k) : EReal)) i))
      ∧ (Host.sort3 S4096x1024 1 (comparator_f32_f32_f32_d1 (F := Ideal)) x u v).2.2 (ix2 r i)
        = v (ix2 r (sortPerm (fun k : Fin 1024 => (x (ix2 r k) : EReal)) i)) :=
  sort3_lt_apply _ comparator_eq x u v r i

/-- Sorting a shuffled row by its key negated puts the row in descending order, and what is carried along is carried by the
    one permutation. -/
theorem descend (y p u v a b : Row) (π : Equiv.Perm (Fin 1024)) (hu : ∀ i, u i = y (π i)) (hv : ∀ i, v i = p (π i))
    (ha : ∀ i, a i = u (sortPerm (fun k => -u k) i)) (hb : ∀ i, b i = v (sortPerm (fun k => -u k) i)) :
    ∃ ω : Equiv.Perm (Fin 1024), Antitone (y ∘ ω) ∧ a = y ∘ ω ∧ b = p ∘ ω := by
  have h := key_sortPerm (fun k => -u k)
  generalize sortPerm (fun k => -u k) = σ at ha hb h
  refine ⟨π * σ, fun i j hij => ?_, funext fun i => (ha i).trans (hu _), funext fun i => (hb i).trans (hv _)⟩
  have h' := EReal.neg_le_neg_iff.mp (h hij)
  rw [hu, hu] at h'
  exact h'

/-- A row of the sorted matrices is the row under a permutation that puts the targets in descending order. -/
theorem sorted3_row (y p : Mat) (S : Mat × Mat × Mat) (hS : sorted3 y p = S) (r : Fin 4096) :
    ∃ π : Equiv.Perm (Fin 1024), Antitone ((fun i : Fin 1024 => (y (ix2 r i) : EReal)) ∘ π)
      ∧ ((fun i : Fin 1024 => (S.2.1 (ix2 r i) : EReal)) = (fun i : Fin 1024 => (y (ix2 r i) : EReal)) ∘ π)
      ∧ ((fun i : Fin 1024 => (S.2.2 (ix2 r i) : EReal)) = (fun i : Fin 1024 => (p (ix2 r i) : EReal)) ∘ π) := by
  have hs := sort3_row (Host.negf (shuffled y)) (shuffled y) (shuffled p) r
  change Host.sort3 S4096x1024 1 (comparator_f32_f32_f32_d1 (F := Ideal)) (Host.negf (shuffled y)) (shuffled y)
    (shuffled p) = S at hS
  rw [hS] at hs
  have hy := shuffled_row y r
  have hp := shuffled_row p r
  have hk : (fun k : Fin 1024 => (Host.negf (shuffled y) (ix2 r k) : EReal)) = fun k => -(shuffled y (ix2 r k) : EReal) := rfl
  rw [hk] at hs
  generalize shuffled y = u at hy hs
  generalize shuffled p = v at hp hs
  generalize shuffle = π at hy hp
  exact descend (fun i => y (ix2 r i)) (fun i => p (ix2 r i)) (fun i => u (ix2 r i)) (fun i => v (ix2 r i))
    (fun i => S.2.1 (ix2 r i)) (fun i => S.2.2 (ix2 r i)) π hy hp (fun i => (hs i).1) (fun i => (hs i).2)

/-- The mean of the sorted rows' losses. -/
theorem mean_sorted (y p : Mat) (S : Mat × Mat × Mat) (hS : sorted3 y p = S) : ∃ π : Fin 4096 → Equiv.Perm (Fin 1024),
    (∀ r, Antitone ((fun i : Fin 1024 => (y (ix2 r i) : EReal)) ∘ π r))
      ∧ mean (losses S.2.1 S.2.2) = fun _ => Ideal.div (∑ r : Fin 4096,
          rowLoss ((fun i : Fin 1024 => y (ix2 r i)) ∘ π r) ((fun i : Fin 1024 => p (ix2 r i)) ∘ π r))
          (Ideal.ofBits .f32 0x45800000#32) := by
  choose π hπ h1 h2 using sorted3_row y p S hS
  refine ⟨π, hπ, funext fun j => ?_⟩
  rw [mean_apply]
  refine congrArg (Ideal.div · _) (Finset.sum_congr rfl fun r _ => ?_)
  rw [losses_apply, h1, h2]

/-- The reference's targets. -/
abbrev targets (m : (ℓ : Loc nD τ sig) → Buf (Elt Ideal) ℓ) (c : Dev nD) : Mat := m ((c.tc : Thread nD τ).loc main_arg1)

/-- The reference's predictions. -/
abbrev preds (m : (ℓ : Loc nD τ sig) → Buf (Elt Ideal) ℓ) (c : Dev nD) : Mat := m ((c.tc : Thread nD τ).loc main_arg0)

/-- The reference's value: the mean over the rows of the loss of each row's targets, put in some descending order. -/
theorem reference_value (m : (ℓ : Loc nD τ sig) → Buf (Elt Ideal) ℓ) (c : Dev nD) :
    ∃ π : Fin 4096 → Equiv.Perm (Fin 1024),
      (∀ r, Antitone ((fun i : Fin 1024 => (targets m c (ix2 r i) : EReal)) ∘ π r))
      ∧ Value.res_main_v41 m c = fun _ => Ideal.div (∑ r : Fin 4096,
          rowLoss ((fun i : Fin 1024 => targets m c (ix2 r i)) ∘ π r) ((fun i : Fin 1024 => preds m c (ix2 r i)) ∘ π r))
          (Ideal.ofBits .f32 0x45800000#32) := by
  rw [result_eq]
  exact mean_sorted _ _ _ rfl

end Cert.ReferenceIdeal.Rows

end
-- ==== Proof.Distinct.lean ====
/-
  What the precondition says of a row of targets: two equal ones are padding (`pad_of_eq`).
-/
module

public import proofs.«01_k».proof.Pre_targets_distinct
public import proofs.«01_k».proof.Proof.Loss
public import proofs.«01_k».proof.Proof.Order
public import Idealize.ShloMosaic.Lib.Pipeline.Value

@[expose] public section

noncomputable section

namespace Cert.Pre_targets_distinct

open Idealize.ShloMosaic Cert.ListMLE

/-- The shape relations the precondition's operations take. -/
theorem facts : Facts where
  slices_S4096x1024_S4096x1023_0_1 := by decide
  slices_S4096x1024_S4096x1023_0_0 := by decide
  bcast_S_S4096x1023 := by decide

/-- Its sort compares extended reals. -/
theorem comparator_eq (l r : EReal) : comparator_f32_d1 (F := Ideal) l r = BitVec.ofBool (decide (l < r)) := by
  exact congrArg₂ (Ideal.cmp .olt) (canonical l) (canonical r)

/-- A row of its sort is the row in ascending order. -/
theorem sort_row (y : FVec Ideal S4096x1024 .f32) (r : Fin 4096) (i : Fin 1024) :
    Host.sort S4096x1024 1 comparator_f32_d1 y (ix2 r i)
      = y (ix2 r (sortPerm (fun k : Fin 1024 => y (ix2 r k)) i)) :=
  sort_lt_apply _ comparator_eq y r i

/-- Under the precondition two equal targets of a row are padding. -/
theorem pad_of_eq (hF : Facts) (p y : FVec Ideal S4096x1024 .f32) (h : fn (F := Ideal) p y = fun _ => 1#1) (r : Fin 4096)
    (i j : Fin 1024) (hij : i ≠ j) (hy : y (ix2 r i) = y (ix2 r j)) : y (ix2 r i) = pad := by
  set σ := sortPerm (fun k : Fin 1024 => y (ix2 r k)) with hσ
  have hm := key_sortPerm (fun k : Fin 1024 => y (ix2 r k))
  rw [← hσ] at hm
  unfold fn at h
  dsimp only at h
  have hS := sort_row y r
  generalize Host.sort S4096x1024 1 (comparator_f32_d1 (F := Ideal)) y = S at h hS
  have hstep : ∀ n (h0 : n < 1023), y (ix2 r (σ ⟨n, by omega⟩)) < y (ix2 r (σ ⟨n + 1, by omega⟩))
      ∨ y (ix2 r (σ ⟨n + 1, by omega⟩)) = pad := by
    intro n h0
    have hn : IntOp.ori
        (Ideal.cmp .ogt (extractStridedSlice S4096x1023 ![0, 1] S hF.slices_S4096x1024_S4096x1023_0_1 (ix2 r ⟨n, h0⟩))
          (extractStridedSlice S4096x1023 ![0, 0] S hF.slices_S4096x1024_S4096x1023_0_0 (ix2 r ⟨n, h0⟩)))
        (Ideal.cmp .oeq (extractStridedSlice S4096x1023 ![0, 1] S hF.slices_S4096x1024_S4096x1023_0_1 (ix2 r ⟨n, h0⟩)) pad)
          = 1#1 := congrFun h (ix2 r ⟨n, h0⟩)
    have e1 : extractStridedSlice S4096x1023 ![0, 1] S hF.slices_S4096x1024_S4096x1023_0_1 (ix2 r ⟨n, h0⟩)
        = S (ix2 r ⟨n + 1, by omega⟩) := extractStridedSlice_apply _ S _ _ _ (fun a => by
      fin_cases a
      · exact (Nat.zero_add _).symm
      · exact Nat.add_comm _ _)
    have e0 : extractStridedSlice S4096x1023 ![0, 0] S hF.slices_S4096x1024_S4096x1023_0_0 (ix2 r ⟨n, h0⟩)
        = S (ix2 r ⟨n, by omega⟩) := extractStridedSlice_apply _ S _ _ _ (fun a => by
      fin_cases a
      · exact (Nat.zero_add _).symm
      · exact (Nat.zero_add _).symm)
    rw [e1, e0, hS, hS] at hn
    rw [hσ]
    have hn' := hn
    unfold Ideal.cmp at hn'
    dsimp only at hn'
    by_contra hc
    rw [not_or] at hc
    rw [decide_eq_false hc.1, decide_eq_false hc.2] at hn'
    exact absurd hn' (by decide)
  have key : ∀ a b : Fin 1024, a < b → y (ix2 r (σ a)) = y (ix2 r (σ b)) → y (ix2 r (σ b)) = pad := by
    intro a b hab he
    have hb : 0 < b.val := Nat.lt_of_le_of_lt (Nat.zero_le _) hab
    have hb' : b = ⟨b.val - 1 + 1, by omega⟩ := Fin.ext (by show b.val = b.val - 1 + 1; omega)
    have hs := hstep (b.val - 1) (by omega)
    rw [← hb'] at hs
    rcases hs with hs | hs
    · have hle : y (ix2 r (σ a)) ≤ y (ix2 r (σ ⟨b.val - 1, by omega⟩)) :=
        hm (show a ≤ ⟨b.val - 1, by omega⟩ from Fin.le_def.mpr (by show a.val ≤ b.val - 1; omega))
      exact absurd he (ne_of_lt (lt_of_le_of_lt hle hs))
    · exact hs
  obtain ⟨a, rfl⟩ := σ.surjective i
  obtain ⟨b, rfl⟩ := σ.surjective j
  rcases lt_trichotomy a b with hab | hab | hab
  · exact hy.trans (key a b hab hy)
  · exact absurd (congrArg σ hab) hij
  · exact key b a hab hy.symm

end Cert.Pre_targets_distinct

end
-- ==== Proof.Agree.lean ====
/-
  The kernel and the reference end with one value where the targets of every row are distinct, padding apart (`algebraic`):
  both are the mean of the rows' losses in some descending order of the targets, and a row's loss does not depend on which.
-/
module

public import proofs.«01_k».proof.Defs
public import proofs.«01_k».proof.Proof.KernelValue
public import proofs.«01_k».proof.Proof.Reference
public import proofs.«01_k».proof.Proof.Distinct

@[expose] public section

noncomputable section

namespace Cert.Agree

open Idealize.ShloMosaic Idealize.SL.Sem Cert.ListMLE

/-- The sum of the rows' losses does not depend on the descending orders they are taken in. -/
theorem sum_unique (y p : Fin 4096 → Row) (hy : ∀ r i j, i ≠ j → y r i = y r j → y r i = pad)
    (σ π : Fin 4096 → Equiv.Perm (Fin 1024)) (hσ : ∀ r, Antitone (y r ∘ σ r)) (hπ : ∀ r, Antitone (y r ∘ π r)) :
    (∑ r, rowLoss (y r ∘ σ r) (p r ∘ σ r)) = ∑ r, rowLoss (y r ∘ π r) (p r ∘ π r) :=
  Finset.sum_congr rfl fun r _ => rowLoss_unique (y r) (p r) (hy r) (σ r) (π r) (hσ r) (hπ r)

/-- The two programs' values agree. -/
theorem value_eq [hF : Cert.Pre_targets_distinct.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_targets_distinct.fn (F := Ideal)
      (Cert.KernelIdeal.Whole.preds m c) (Cert.KernelIdeal.Whole.targets m c) = fun _ => 1#1)
    (h0 : Cert.ReferenceIdeal.Rows.preds m' c = Cert.KernelIdeal.Whole.preds m c)
    (h1 : Cert.ReferenceIdeal.Rows.targets m' c = Cert.KernelIdeal.Whole.targets m c) :
    Cert.ReferenceIdeal.Value.res_main_v41 m' c
      = Cert.KernelIdeal.Whole.meanOf ((Cert.KernelIdeal.Gen.dats m 0 c).arrAt 2 Cert.KernelIdeal.cfg0.N) := by
  obtain ⟨σ, hσ, hk⟩ := Cert.KernelIdeal.Whole.kernel_value m c
  obtain ⟨π, hπ, hr⟩ := Cert.ReferenceIdeal.Rows.reference_value m' c
  rw [hk, hr]
  rw [h1] at hπ ⊢
  rw [h0]
  have hy := Cert.Pre_targets_distinct.pad_of_eq hF _ _ hpre
  generalize Cert.KernelIdeal.Whole.targets m c = y at hσ hπ hy ⊢
  generalize Cert.KernelIdeal.Whole.preds m c = p
  exact funext fun _ => congrArg (Ideal.div · _)
    (sum_unique (fun r i => y (ix2 r i)) (fun r i => p (ix2 r i)) (fun r i j => hy r i j) π σ hπ hσ)

/-- From memories that agree on the arguments, where the targets of every row are distinct, padding apart, both programs run
    and end with one value, their arguments unchanged. -/
theorem algebraic : algebraic_KernelIdeal_ReferenceIdeal_pre_targets_distinct (hKernelIdeal := Cert.KernelIdeal.Gen.facts)
    (hReferenceIdeal := Cert.ReferenceIdeal.Gen.facts) (hPre_targets_distinct := Cert.Pre_targets_distinct.facts) := by
  intro m g m' g' hpre hagree
  refine ⟨fun c => Cert.KernelIdeal.Whole.meanOf ((Cert.KernelIdeal.Gen.dats m 0 c).arrAt 2 Cert.KernelIdeal.cfg0.N),
    Cert.KernelIdeal.Whole.run m g, θ_run_mono (Cert.ReferenceIdeal.Value.run (F := Ideal) m' g') fun r hr c => ?_⟩
  exact ⟨(hr c).1.trans (value_eq (hF := Cert.Pre_targets_distinct.facts) m m' c (hpre c) (hagree c).1 (hagree c).2), (hr c).2⟩

end Cert.Agree

end
-- ==== Proof.lean ====
/-
  The certificate for the ListMLE loss kernel.  The frames of the kernel, its idealization and the reference; the idealization
  rewrites nothing, so `preserves` is trivial; and `Cert.Agree.algebraic`: where the targets of every row are distinct, padding
  apart, the kernel's loss is the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs from every memory, leaves its arguments as they were and every semaphore at zero. -/
theorem frame_r : quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Everything the certificate claims. -/
theorem claim : Cert.Claim :=
  ⟨Cert.Kernel.Gen.facts, Cert.KernelIdeal.Gen.facts, Cert.ReferenceIdeal.Gen.facts, Cert.Pre_targets_distinct.facts,
    fun m ρ _ => Cert.Kernel.Gen.frame m ρ,
    fun m ρ _ => Cert.KernelIdeal.Gen.frame m ρ,
    fun m ρ _ => Cert.KernelIdeal.Gen.frame m ρ,
    frame_r,
    fun m ρ _ => frame_r m ρ trivial,
    trivial,
    Cert.Agree.algebraic⟩

end Cert.Proof

end
